-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_positive_scales [hPre_positive_scales : Cert.Pre_positive_scales.Facts] (m : (ℓ : Loc Cert.KernelIdeal.nD Cert.KernelIdeal.τ Cert.KernelIdeal.sig) → Buf (Elt Ideal) ℓ) : Prop :=
  ∀ c : Dev Cert.KernelIdeal.nD,
    (Cert.Pre_positive_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_positive_scales [hPre_positive_scales : Cert.Pre_positive_scales.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_positive_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_positive_scales [hKernelIdeal : Cert.KernelIdeal.Facts] [hPre_positive_scales : Cert.Pre_positive_scales.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_positive_scales m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_positive_scales [hReferenceIdeal : Cert.ReferenceIdeal.Facts] [hPre_positive_scales : Cert.Pre_positive_scales.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_positive_scales m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "logit_scale" .f32 0x3E0293EE#32 (((Real.sqrt 128)⁻¹ * (Real.log 2)⁻¹ : ℝ) : EReal)

def algebraic_KernelIdeal_ReferenceIdeal_pre_positive_scales [hKernelIdeal : Cert.KernelIdeal.Facts] [hReferenceIdeal : Cert.ReferenceIdeal.Facts] [hPre_positive_scales : Cert.Pre_positive_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_positive_scales m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_positive_scales : Cert.Pre_positive_scales.Facts),
    quiescent_Kernel (hKernel := hKernel)
    ∧ quiescent_KernelIdeal (hKernelIdeal := hKernelIdeal)
    ∧ quiescent_KernelIdeal_pre_positive_scales (hKernelIdeal := hKernelIdeal) (hPre_positive_scales := hPre_positive_scales)
    ∧ quiescent_ReferenceIdeal (hReferenceIdeal := hReferenceIdeal)
    ∧ quiescent_ReferenceIdeal_pre_positive_scales (hReferenceIdeal := hReferenceIdeal) (hPre_positive_scales := hPre_positive_scales)
    ∧ preserves_Kernel_KernelIdeal
    ∧ algebraic_KernelIdeal_ReferenceIdeal_pre_positive_scales (hKernelIdeal := hKernelIdeal) (hReferenceIdeal := hReferenceIdeal) (hPre_positive_scales := hPre_positive_scales)
-- ==== Pre_positive_scales.lean ====
abbrev S4x1280x16x128 : Shape := ⟨4, ![4, 1280, 16, 128]⟩
abbrev S4x1280x16 : Shape := ⟨3, ![4, 1280, 16]⟩
abbrev S4x2x1280x128 : Shape := ⟨4, ![4, 2, 1280, 128]⟩
abbrev S4x1280x2 : Shape := ⟨3, ![4, 1280, 2]⟩
abbrev S4x1280x2x128 : Shape := ⟨4, ![4, 1280, 2, 128]⟩
abbrev S_ : Shape := ⟨0, ![]⟩

class Facts : Prop where
  bcast_S_S4x1280x16 : S_.BroadcastsInDim S4x1280x16 (![] : Fin 0 → Fin S4x1280x16.rank)

variable [Facts]

def fn {F : FTy → Type} [FloatOps F] (main_arg0 : FVec F S4x1280x16x128 .fp8e4m3) (main_arg1 : FVec F S4x1280x16 .f32) (main_arg2 : FVec F S4x2x1280x128 .fp8e4m3) (main_arg3 : FVec F S4x1280x2 .f32) (main_arg4 : FVec F S4x1280x2x128 .bf16) : IVec S4x1280x16 1 :=
  let main_cst : FVec F S_ .f32 := constant S_ .f32 0x00000000#32
  let main_v0 : FVec F S4x1280x16 .f32 := broadcastInDim S4x1280x16 ![] bcast_S_S4x1280x16 main_cst
  let main_v1 : IVec S4x1280x16 1 := cmpf .ogt main_arg1 main_v0
  main_v1
-- ==== Kernel.lean ====
abbrev S4x1280x16x128 : Shape := ⟨4, ![4, 1280, 16, 128]⟩
abbrev S4x1280x16 : Shape := ⟨3, ![4, 1280, 16]⟩
abbrev S4x2x1280x128 : Shape := ⟨4, ![4, 2, 1280, 128]⟩
abbrev S4x1280x2 : Shape := ⟨3, ![4, 1280, 2]⟩
abbrev S4x1280x2x128 : Shape := ⟨4, ![4, 1280, 2, 128]⟩
abbrev S4x16x1280 : Shape := ⟨3, ![4, 16, 1280]⟩
abbrev S4x2x1280 : Shape := ⟨3, ![4, 2, 1280]⟩
abbrev S4x2x1280x1 : Shape := ⟨4, ![4, 2, 1280, 1]⟩
abbrev S4x2x128x1280 : Shape := ⟨4, ![4, 2, 128, 1280]⟩
abbrev S4x1280x2048 : Shape := ⟨3, ![4, 1280, 2048]⟩
abbrev S1x1280x16x128 : Shape := ⟨4, ![1, 1280, 16, 128]⟩
abbrev S1x16x1280 : Shape := ⟨3, ![1, 16, 1280]⟩
abbrev S1x1x1280x128 : Shape := ⟨4, ![1, 1, 1280, 128]⟩
abbrev S1x1x128x1280 : Shape := ⟨4, ![1, 1, 128, 1280]⟩
abbrev S1x1280x1024 : Shape := ⟨3, ![1, 1280, 1024]⟩
abbrev S3x1280x256 : Shape := ⟨3, ![3, 1280, 256]⟩
abbrev S2x1280x256 : Shape := ⟨3, ![2, 1280, 256]⟩
abbrev S2x128x128 : Shape := ⟨3, ![2, 128, 128]⟩
abbrev S1x128 : Shape := ⟨2, ![1, 128]⟩
abbrev S32x128 : Shape := ⟨2, ![32, 128]⟩
abbrev S32x256 : Shape := ⟨2, ![32, 256]⟩
abbrev S8x128 : Shape := ⟨2, ![8, 128]⟩
abbrev S1x1x32x128 : Shape := ⟨4, ![1, 1, 32, 128]⟩
abbrev S1x32x4x128 : Shape := ⟨4, ![1, 32, 4, 128]⟩
abbrev S32x4x128 : Shape := ⟨3, ![32, 4, 128]⟩
abbrev S128x128 : Shape := ⟨2, ![128, 128]⟩
abbrev S256x128 : Shape := ⟨2, ![256, 128]⟩
abbrev S1x32x256 : Shape := ⟨3, ![1, 32, 256]⟩
abbrev S256 : Shape := ⟨1, ![256]⟩
abbrev S1x256 : Shape := ⟨2, ![1, 256]⟩
abbrev S1x1x64x128 : Shape := ⟨4, ![1, 1, 64, 128]⟩
abbrev S64x128 : Shape := ⟨2, ![64, 128]⟩
abbrev S64x256 : Shape := ⟨2, ![64, 256]⟩
abbrev S1x1x96x128 : Shape := ⟨4, ![1, 1, 96, 128]⟩
abbrev S96x128 : Shape := ⟨2, ![96, 128]⟩
abbrev S96x256 : Shape := ⟨2, ![96, 256]⟩
abbrev S1x64x256 : Shape := ⟨3, ![1, 64, 256]⟩
abbrev S1x8x32 : Shape := ⟨3, ![1, 8, 32]⟩
abbrev S8x32 : Shape := ⟨2, ![8, 32]⟩
abbrev S4x128 : Shape := ⟨2, ![4, 128]⟩
abbrev S128 : Shape := ⟨1, ![128]⟩
abbrev S1x1x128x128 : Shape := ⟨4, ![1, 1, 128, 128]⟩
abbrev S128x256 : Shape := ⟨2, ![128, 256]⟩
abbrev S1x96x256 : Shape := ⟨3, ![1, 96, 256]⟩
abbrev S1x1x128x32 : Shape := ⟨4, ![1, 1, 128, 32]⟩
abbrev S128x32 : Shape := ⟨2, ![128, 32]⟩
abbrev S1x128x128 : Shape := ⟨3, ![1, 128, 128]⟩
abbrev S1x32x128 : Shape := ⟨3, ![1, 32, 128]⟩
abbrev S1x1x160x128 : Shape := ⟨4, ![1, 1, 160, 128]⟩
abbrev S160x128 : Shape := ⟨2, ![160, 128]⟩
abbrev S160x256 : Shape := ⟨2, ![160, 256]⟩
abbrev S1x128x256 : Shape := ⟨3, ![1, 128, 256]⟩
abbrev S1x1x128x64 : Shape := ⟨4, ![1, 1, 128, 64]⟩
abbrev S128x64 : Shape := ⟨2, ![128, 64]⟩
abbrev S1x1x192x128 : Shape := ⟨4, ![1, 1, 192, 128]⟩
abbrev S192x128 : Shape := ⟨2, ![192, 128]⟩
abbrev S192x256 : Shape := ⟨2, ![192, 256]⟩
abbrev S1x160x256 : Shape := ⟨3, ![1, 160, 256]⟩
abbrev S1x1x128x96 : Shape := ⟨4, ![1, 1, 128, 96]⟩
abbrev S128x96 : Shape := ⟨2, ![128, 96]⟩
abbrev S1x1x224x128 : Shape := ⟨4, ![1, 1, 224, 128]⟩
abbrev S224x128 : Shape := ⟨2, ![224, 128]⟩
abbrev S224x256 : Shape := ⟨2, ![224, 256]⟩
abbrev S1x192x256 : Shape := ⟨3, ![1, 192, 256]⟩
abbrev S1x1x256x128 : Shape := ⟨4, ![1, 1, 256, 128]⟩
abbrev S256x256 : Shape := ⟨2, ![256, 256]⟩
abbrev S1x224x256 : Shape := ⟨3, ![1, 224, 256]⟩
abbrev S1x1x128x160 : Shape := ⟨4, ![1, 1, 128, 160]⟩
abbrev S128x160 : Shape := ⟨2, ![128, 160]⟩
abbrev S1x1x288x128 : Shape := ⟨4, ![1, 1, 288, 128]⟩
abbrev S288x128 : Shape := ⟨2, ![288, 128]⟩
abbrev S288x256 : Shape := ⟨2, ![288, 256]⟩
abbrev S1x256x256 : Shape := ⟨3, ![1, 256, 256]⟩
abbrev S1x1x128x192 : Shape := ⟨4, ![1, 1, 128, 192]⟩
abbrev S128x192 : Shape := ⟨2, ![128, 192]⟩
abbrev S1x1x320x128 : Shape := ⟨4, ![1, 1, 320, 128]⟩
abbrev S320x128 : Shape := ⟨2, ![320, 128]⟩
abbrev S320x256 : Shape := ⟨2, ![320, 256]⟩
abbrev S1x288x256 : Shape := ⟨3, ![1, 288, 256]⟩
abbrev S1x1x128x224 : Shape := ⟨4, ![1, 1, 128, 224]⟩
abbrev S128x224 : Shape := ⟨2, ![128, 224]⟩
abbrev S1x1x352x128 : Shape := ⟨4, ![1, 1, 352, 128]⟩
abbrev S352x128 : Shape := ⟨2, ![352, 128]⟩
abbrev S352x256 : Shape := ⟨2, ![352, 256]⟩
abbrev S1x320x256 : Shape := ⟨3, ![1, 320, 256]⟩
abbrev S1x1x128x256 : Shape := ⟨4, ![1, 1, 128, 256]⟩
abbrev S1x1x384x128 : Shape := ⟨4, ![1, 1, 384, 128]⟩
abbrev S384x128 : Shape := ⟨2, ![384, 128]⟩
abbrev S384x256 : Shape := ⟨2, ![384, 256]⟩
abbrev S1x352x256 : Shape := ⟨3, ![1, 352, 256]⟩
abbrev S1x1x128x288 : Shape := ⟨4, ![1, 1, 128, 288]⟩
abbrev S128x288 : Shape := ⟨2, ![128, 288]⟩
abbrev S1x1x416x128 : Shape := ⟨4, ![1, 1, 416, 128]⟩
abbrev S416x128 : Shape := ⟨2, ![416, 128]⟩
abbrev S416x256 : Shape := ⟨2, ![416, 256]⟩
abbrev S1x384x256 : Shape := ⟨3, ![1, 384, 256]⟩
abbrev S1x1x128x320 : Shape := ⟨4, ![1, 1, 128, 320]⟩
abbrev S128x320 : Shape := ⟨2, ![128, 320]⟩
abbrev S1x1x448x128 : Shape := ⟨4, ![1, 1, 448, 128]⟩
abbrev S448x128 : Shape := ⟨2, ![448, 128]⟩
abbrev S448x256 : Shape := ⟨2, ![448, 256]⟩
abbrev S1x416x256 : Shape := ⟨3, ![1, 416, 256]⟩
abbrev S1x1x128x352 : Shape := ⟨4, ![1, 1, 128, 352]⟩
abbrev S128x352 : Shape := ⟨2, ![128, 352]⟩
abbrev S1x1x480x128 : Shape := ⟨4, ![1, 1, 480, 128]⟩
abbrev S480x128 : Shape := ⟨2, ![480, 128]⟩
abbrev S480x256 : Shape := ⟨2, ![480, 256]⟩
abbrev S1x448x256 : Shape := ⟨3, ![1, 448, 256]⟩
abbrev S1x1x128x384 : Shape := ⟨4, ![1, 1, 128, 384]⟩
abbrev S128x384 : Shape := ⟨2, ![128, 384]⟩
abbrev S1x1x512x128 : Shape := ⟨4, ![1, 1, 512, 128]⟩
abbrev S512x128 : Shape := ⟨2, ![512, 128]⟩
abbrev S512x256 : Shape := ⟨2, ![512, 256]⟩
abbrev S1x480x256 : Shape := ⟨3, ![1, 480, 256]⟩
abbrev S1x1x128x416 : Shape := ⟨4, ![1, 1, 128, 416]⟩
abbrev S128x416 : Shape := ⟨2, ![128, 416]⟩
abbrev S1x1x544x128 : Shape := ⟨4, ![1, 1, 544, 128]⟩
abbrev S544x128 : Shape := ⟨2, ![544, 128]⟩
abbrev S544x256 : Shape := ⟨2, ![544, 256]⟩
abbrev S1x512x256 : Shape := ⟨3, ![1, 512, 256]⟩
abbrev S1x1x128x448 : Shape := ⟨4, ![1, 1, 128, 448]⟩
abbrev S128x448 : Shape := ⟨2, ![128, 448]⟩
abbrev S1x1x576x128 : Shape := ⟨4, ![1, 1, 576, 128]⟩
abbrev S576x128 : Shape := ⟨2, ![576, 128]⟩
abbrev S576x256 : Shape := ⟨2, ![576, 256]⟩
abbrev S1x544x256 : Shape := ⟨3, ![1, 544, 256]⟩
abbrev S1x1x128x480 : Shape := ⟨4, ![1, 1, 128, 480]⟩
abbrev S128x480 : Shape := ⟨2, ![128, 480]⟩
abbrev S1x1x608x128 : Shape := ⟨4, ![1, 1, 608, 128]⟩
abbrev S608x128 : Shape := ⟨2, ![608, 128]⟩
abbrev S608x256 : Shape := ⟨2, ![608, 256]⟩
abbrev S1x576x256 : Shape := ⟨3, ![1, 576, 256]⟩
abbrev S1x1x128x512 : Shape := ⟨4, ![1, 1, 128, 512]⟩
abbrev S128x512 : Shape := ⟨2, ![128, 512]⟩
abbrev S1x1x640x128 : Shape := ⟨4, ![1, 1, 640, 128]⟩
abbrev S640x128 : Shape := ⟨2, ![640, 128]⟩
abbrev S640x256 : Shape := ⟨2, ![640, 256]⟩
abbrev S1x608x256 : Shape := ⟨3, ![1, 608, 256]⟩
abbrev S1x1x128x544 : Shape := ⟨4, ![1, 1, 128, 544]⟩
abbrev S128x544 : Shape := ⟨2, ![128, 544]⟩
abbrev S1x1x672x128 : Shape := ⟨4, ![1, 1, 672, 128]⟩
abbrev S672x128 : Shape := ⟨2, ![672, 128]⟩
abbrev S672x256 : Shape := ⟨2, ![672, 256]⟩
abbrev S1x640x256 : Shape := ⟨3, ![1, 640, 256]⟩
abbrev S1x1x128x576 : Shape := ⟨4, ![1, 1, 128, 576]⟩
abbrev S128x576 : Shape := ⟨2, ![128, 576]⟩
abbrev S1x1x704x128 : Shape := ⟨4, ![1, 1, 704, 128]⟩
abbrev S704x128 : Shape := ⟨2, ![704, 128]⟩
abbrev S704x256 : Shape := ⟨2, ![704, 256]⟩
abbrev S1x672x256 : Shape := ⟨3, ![1, 672, 256]⟩
abbrev S1x1x128x608 : Shape := ⟨4, ![1, 1, 128, 608]⟩
abbrev S128x608 : Shape := ⟨2, ![128, 608]⟩
abbrev S1x1x736x128 : Shape := ⟨4, ![1, 1, 736, 128]⟩
abbrev S736x128 : Shape := ⟨2, ![736, 128]⟩
abbrev S736x256 : Shape := ⟨2, ![736, 256]⟩
abbrev S1x704x256 : Shape := ⟨3, ![1, 704, 256]⟩
abbrev S1x1x128x640 : Shape := ⟨4, ![1, 1, 128, 640]⟩
abbrev S128x640 : Shape := ⟨2, ![128, 640]⟩
abbrev S1x1x768x128 : Shape := ⟨4, ![1, 1, 768, 128]⟩
abbrev S768x128 : Shape := ⟨2, ![768, 128]⟩
abbrev S768x256 : Shape := ⟨2, ![768, 256]⟩
abbrev S1x736x256 : Shape := ⟨3, ![1, 736, 256]⟩
abbrev S1x1x128x672 : Shape := ⟨4, ![1, 1, 128, 672]⟩
abbrev S128x672 : Shape := ⟨2, ![128, 672]⟩
abbrev S1x1x800x128 : Shape := ⟨4, ![1, 1, 800, 128]⟩
abbrev S800x128 : Shape := ⟨2, ![800, 128]⟩
abbrev S800x256 : Shape := ⟨2, ![800, 256]⟩
abbrev S1x768x256 : Shape := ⟨3, ![1, 768, 256]⟩
abbrev S1x1x128x704 : Shape := ⟨4, ![1, 1, 128, 704]⟩
abbrev S128x704 : Shape := ⟨2, ![128, 704]⟩
abbrev S1x1x832x128 : Shape := ⟨4, ![1, 1, 832, 128]⟩
abbrev S832x128 : Shape := ⟨2, ![832, 128]⟩
abbrev S832x256 : Shape := ⟨2, ![832, 256]⟩
abbrev S1x800x256 : Shape := ⟨3, ![1, 800, 256]⟩
abbrev S1x1x128x736 : Shape := ⟨4, ![1, 1, 128, 736]⟩
abbrev S128x736 : Shape := ⟨2, ![128, 736]⟩
abbrev S1x1x864x128 : Shape := ⟨4, ![1, 1, 864, 128]⟩
abbrev S864x128 : Shape := ⟨2, ![864, 128]⟩
abbrev S864x256 : Shape := ⟨2, ![864, 256]⟩
abbrev S1x832x256 : Shape := ⟨3, ![1, 832, 256]⟩
abbrev S1x1x128x768 : Shape := ⟨4, ![1, 1, 128, 768]⟩
abbrev S128x768 : Shape := ⟨2, ![128, 768]⟩
abbrev S1x1x896x128 : Shape := ⟨4, ![1, 1, 896, 128]⟩
abbrev S896x128 : Shape := ⟨2, ![896, 128]⟩
abbrev S896x256 : Shape := ⟨2, ![896, 256]⟩
abbrev S1x864x256 : Shape := ⟨3, ![1, 864, 256]⟩
abbrev S1x1x128x800 : Shape := ⟨4, ![1, 1, 128, 800]⟩
abbrev S128x800 : Shape := ⟨2, ![128, 800]⟩
abbrev S1x1x928x128 : Shape := ⟨4, ![1, 1, 928, 128]⟩
abbrev S928x128 : Shape := ⟨2, ![928, 128]⟩
abbrev S928x256 : Shape := ⟨2, ![928, 256]⟩
abbrev S1x896x256 : Shape := ⟨3, ![1, 896, 256]⟩
abbrev S1x1x128x832 : Shape := ⟨4, ![1, 1, 128, 832]⟩
abbrev S128x832 : Shape := ⟨2, ![128, 832]⟩
abbrev S1x1x960x128 : Shape := ⟨4, ![1, 1, 960, 128]⟩
abbrev S960x128 : Shape := ⟨2, ![960, 128]⟩
abbrev S960x256 : Shape := ⟨2, ![960, 256]⟩
abbrev S1x928x256 : Shape := ⟨3, ![1, 928, 256]⟩
abbrev S1x1x128x864 : Shape := ⟨4, ![1, 1, 128, 864]⟩
abbrev S128x864 : Shape := ⟨2, ![128, 864]⟩
abbrev S1x1x992x128 : Shape := ⟨4, ![1, 1, 992, 128]⟩
abbrev S992x128 : Shape := ⟨2, ![992, 128]⟩
abbrev S992x256 : Shape := ⟨2, ![992, 256]⟩
abbrev S1x960x256 : Shape := ⟨3, ![1, 960, 256]⟩
abbrev S1x1x128x896 : Shape := ⟨4, ![1, 1, 128, 896]⟩
abbrev S128x896 : Shape := ⟨2, ![128, 896]⟩
abbrev S1x1x1024x128 : Shape := ⟨4, ![1, 1, 1024, 128]⟩
abbrev S1024x128 : Shape := ⟨2, ![1024, 128]⟩
abbrev S1024x256 : Shape := ⟨2, ![1024, 256]⟩
abbrev S1x992x256 : Shape := ⟨3, ![1, 992, 256]⟩
abbrev S1x1x128x928 : Shape := ⟨4, ![1, 1, 128, 928]⟩
abbrev S128x928 : Shape := ⟨2, ![128, 928]⟩
abbrev S1x1x1056x128 : Shape := ⟨4, ![1, 1, 1056, 128]⟩
abbrev S1056x128 : Shape := ⟨2, ![1056, 128]⟩
abbrev S1056x256 : Shape := ⟨2, ![1056, 256]⟩
abbrev S1x1024x256 : Shape := ⟨3, ![1, 1024, 256]⟩
abbrev S1x1x128x960 : Shape := ⟨4, ![1, 1, 128, 960]⟩
abbrev S128x960 : Shape := ⟨2, ![128, 960]⟩
abbrev S1x1x1088x128 : Shape := ⟨4, ![1, 1, 1088, 128]⟩
abbrev S1088x128 : Shape := ⟨2, ![1088, 128]⟩
abbrev S1088x256 : Shape := ⟨2, ![1088, 256]⟩
abbrev S1x1056x256 : Shape := ⟨3, ![1, 1056, 256]⟩
abbrev S1x1x128x992 : Shape := ⟨4, ![1, 1, 128, 992]⟩
abbrev S128x992 : Shape := ⟨2, ![128, 992]⟩
abbrev S1x1x1120x128 : Shape := ⟨4, ![1, 1, 1120, 128]⟩
abbrev S1120x128 : Shape := ⟨2, ![1120, 128]⟩
abbrev S1120x256 : Shape := ⟨2, ![1120, 256]⟩
abbrev S1x1088x256 : Shape := ⟨3, ![1, 1088, 256]⟩
abbrev S1x1x128x1024 : Shape := ⟨4, ![1, 1, 128, 1024]⟩
abbrev S128x1024 : Shape := ⟨2, ![128, 1024]⟩
abbrev S1x1x1152x128 : Shape := ⟨4, ![1, 1, 1152, 128]⟩
abbrev S1152x128 : Shape := ⟨2, ![1152, 128]⟩
abbrev S1152x256 : Shape := ⟨2, ![1152, 256]⟩
abbrev S1x1120x256 : Shape := ⟨3, ![1, 1120, 256]⟩
abbrev S1x1x128x1056 : Shape := ⟨4, ![1, 1, 128, 1056]⟩
abbrev S128x1056 : Shape := ⟨2, ![128, 1056]⟩
abbrev S1x1x1184x128 : Shape := ⟨4, ![1, 1, 1184, 128]⟩
abbrev S1184x128 : Shape := ⟨2, ![1184, 128]⟩
abbrev S1184x256 : Shape := ⟨2, ![1184, 256]⟩
abbrev S1x1152x256 : Shape := ⟨3, ![1, 1152, 256]⟩
abbrev S1x1x128x1088 : Shape := ⟨4, ![1, 1, 128, 1088]⟩
abbrev S128x1088 : Shape := ⟨2, ![128, 1088]⟩
abbrev S1x1x1216x128 : Shape := ⟨4, ![1, 1, 1216, 128]⟩
abbrev S1216x128 : Shape := ⟨2, ![1216, 128]⟩
abbrev S1216x256 : Shape := ⟨2, ![1216, 256]⟩
abbrev S1x1184x256 : Shape := ⟨3, ![1, 1184, 256]⟩
abbrev S1x1x128x1120 : Shape := ⟨4, ![1, 1, 128, 1120]⟩
abbrev S128x1120 : Shape := ⟨2, ![128, 1120]⟩
abbrev S1x1x1248x128 : Shape := ⟨4, ![1, 1, 1248, 128]⟩
abbrev S1248x128 : Shape := ⟨2, ![1248, 128]⟩
abbrev S1248x256 : Shape := ⟨2, ![1248, 256]⟩
abbrev S1x1216x256 : Shape := ⟨3, ![1, 1216, 256]⟩
abbrev S1x1x128x1152 : Shape := ⟨4, ![1, 1, 128, 1152]⟩
abbrev S128x1152 : Shape := ⟨2, ![128, 1152]⟩
abbrev S1280x128 : Shape := ⟨2, ![1280, 128]⟩
abbrev S1280x256 : Shape := ⟨2, ![1280, 256]⟩
abbrev S1x1248x256 : Shape := ⟨3, ![1, 1248, 256]⟩
abbrev S1x1x128x1184 : Shape := ⟨4, ![1, 1, 128, 1184]⟩
abbrev S128x1184 : Shape := ⟨2, ![128, 1184]⟩
abbrev S1x1x128x1216 : Shape := ⟨4, ![1, 1, 128, 1216]⟩
abbrev S128x1216 : Shape := ⟨2, ![128, 1216]⟩
abbrev S1x1280x256 : Shape := ⟨3, ![1, 1280, 256]⟩
abbrev S1x1x128x1248 : Shape := ⟨4, ![1, 1, 128, 1248]⟩
abbrev S128x1248 : Shape := ⟨2, ![128, 1248]⟩
abbrev S128x1280 : Shape := ⟨2, ![128, 1280]⟩

abbrev nBuf : Space → Nat
  | .hbm => 11
  | .vmem => 15
  | .smem => 0
  | _ => 0

abbrev bufTy : (tb : Table) → Fin (tcTables nBuf tb) → BufTy
  | .hbm, ⟨0, _⟩ => ⟨S4x1280x16x128, .fp8e4m3⟩
  | .hbm, ⟨1, _⟩ => ⟨S4x1280x16, .f32⟩
  | .hbm, ⟨2, _⟩ => ⟨S4x2x1280x128, .fp8e4m3⟩
  | .hbm, ⟨3, _⟩ => ⟨S4x1280x2, .f32⟩
  | .hbm, ⟨4, _⟩ => ⟨S4x1280x2x128, .bf16⟩
  | .hbm, ⟨5, _⟩ => ⟨S4x16x1280, .f32⟩
  | .hbm, ⟨6, _⟩ => ⟨S4x2x1280, .f32⟩
  | .hbm, ⟨7, _⟩ => ⟨S4x2x1280x1, .f32⟩
  | .hbm, ⟨8, _⟩ => ⟨S4x2x1280x128, .f32⟩
  | .hbm, ⟨9, _⟩ => ⟨S4x2x128x1280, .bf16⟩
  | .hbm, ⟨10, _⟩ => ⟨S4x1280x2048, .bf16⟩
  | .local _ .vmem, ⟨0, _⟩ => ⟨S1x1280x16x128, .fp8e4m3⟩
  | .local _ .vmem, ⟨1, _⟩ => ⟨S1x1280x16x128, .fp8e4m3⟩
  | .local _ .vmem, ⟨2, _⟩ => ⟨S1x16x1280, .f32⟩
  | .local _ .vmem, ⟨3, _⟩ => ⟨S1x16x1280, .f32⟩
  | .local _ .vmem, ⟨4, _⟩ => ⟨S1x1x1280x128, .fp8e4m3⟩
  | .local _ .vmem, ⟨5, _⟩ => ⟨S1x1x1280x128, .fp8e4m3⟩
  | .local _ .vmem, ⟨6, _⟩ => ⟨S1x1x1280x128, .f32⟩
  | .local _ .vmem, ⟨7, _⟩ => ⟨S1x1x1280x128, .f32⟩
  | .local _ .vmem, ⟨8, _⟩ => ⟨S1x1x128x1280, .bf16⟩
  | .local _ .vmem, ⟨9, _⟩ => ⟨S1x1x128x1280, .bf16⟩
  | .local _ .vmem, ⟨10, _⟩ => ⟨S1x1280x1024, .bf16⟩
  | .local _ .vmem, ⟨11, _⟩ => ⟨S1x1280x1024, .bf16⟩
  | .local _ .vmem, ⟨12, _⟩ => ⟨S3x1280x256, .f32⟩
  | .local _ .vmem, ⟨13, _⟩ => ⟨S2x1280x256, .bf16⟩
  | .local _ .vmem, ⟨14, _⟩ => ⟨S2x128x128, .f32⟩
  | _, _ => ⟨S4x1280x16x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def k0_off1 (i : grid0.Coords) (c0_i32_26 : BitVec 32) : Fin 4 → Nat :=
  let c0_27 : Index := 0#32
  let c0_28 : Index := 0#32
  let arg1 : BitVec 32 := BitVec.ofNat 32 (i 1).val
  let c8_i32 : BitVec 32 := 8#32
  let v96 : BitVec 32 := Scalar.muli arg1 c8_i32
  let v97 : BitVec 32 := Scalar.addi v96 c0_i32_26
  let v98 : Index := Scalar.indexCast v97
  let c0_29 : Index := 0#32
  ![0, 0, v98.toNat, 0]
def k0_off2 (i : grid0.Coords) (c0_i32_49 : BitVec 32) : Fin 4 → Nat :=
  let c0_50 : Index := 0#32
  let c32 : Index := 32#32
  let arg1 : BitVec 32 := BitVec.ofNat 32 (i 1).val
  let c8_i32_48 : BitVec 32 := 8#32
  let v123 : BitVec 32 := Scalar.muli arg1 c8_i32_48
  let v124 : BitVec 32 := Scalar.addi v123 c0_i32_49
  let v125 : Index := Scalar.indexCast v124
  let c0_51 : Index := 0#32
  ![0, 32, v125.toNat, 0]
def k0_off3 (i : grid0.Coords) (c0_i32_75 : BitVec 32) : Fin 4 → Nat :=
  let c0_76 : Index := 0#32
  let c64 : Index := 64#32
  let arg1 : BitVec 32 := BitVec.ofNat 32 (i 1).val
  let c8_i32_74 : BitVec 32 := 8#32
  let v159 : BitVec 32 := Scalar.muli arg1 c8_i32_74
  let v160 : BitVec 32 := Scalar.addi v159 c0_i32_75
  let v161 : Index := Scalar.indexCast v160
  let c0_77 : Index := 0#32
  ![0, 64, v161.toNat, 0]
def k0_off4 (i : grid0.Coords) : Fin 3 → Nat :=
  let c0_97 : Index := 0#32
  let arg1 : BitVec 32 := BitVec.ofNat 32 (i 1).val
  let c8_i32_96 : BitVec 32 := 8#32
  let v193 : BitVec 32 := Scalar.muli arg1 c8_i32_96
  let v194 : Index := Scalar.indexCast v193
  let c0_98 : Index := 0#32
  ![0, v194.toNat, 0]
def k0_off5 (i : grid0.Coords) (c0_i32_117 : BitVec 32) : Fin 4 → Nat :=
  let c0_118 : Index := 0#32
  let c96 : Index := 96#32
  let arg1 : BitVec 32 := BitVec.ofNat 32 (i 1).val
  let c8_i32_116 : BitVec 32 := 8#32
  let v228 : BitVec 32 := Scalar.muli arg1 c8_i32_116
  let v229 : BitVec 32 := Scalar.addi v228 c0_i32_117
  let v230 : Index := Scalar.indexCast v229
  let c0_119 : Index := 0#32
  ![0, 96, v230.toNat, 0]
def k0_off6 (i : grid0.Coords) : Fin 3 → Nat :=
  let c0_140 : Index := 0#32
  let arg1 : BitVec 32 := BitVec.ofNat 32 (i 1).val
  let c8_i32_139 : BitVec 32 := 8#32
  let v262 : BitVec 32 := Scalar.muli arg1 c8_i32_139
  let v263 : Index := Scalar.indexCast v262
  let c32_141 : Index := 32#32
  ![0, v263.toNat, 32]
def k0_off7 (i : grid0.Coords) (c0_i32_214 : BitVec 32) : Fin 4 → Nat :=
  let c0_215 : Index := 0#32
  let c128_216 : Index := 128#32
  let arg1 : BitVec 32 := BitVec.ofNat 32 (i 1).val
  let c8_i32_213 : BitVec 32 := 8#32
  let v362 : BitVec 32 := Scalar.muli arg1 c8_i32_213
  let v363 : BitVec 32 := Scalar.addi v362 c0_i32_214
  let v364 : Index := Scalar.indexCast v363
  let c0_217 : Index := 0#32
  ![0, 128, v364.toNat, 0]
def k0_off8 (i : grid0.Coords) : Fin 3 → Nat :=
  let c0_238 : Index := 0#32
  let arg1 : BitVec 32 := BitVec.ofNat 32 (i 1).val
  let c8_i32_237 : BitVec 32 := 8#32
  let v396 : BitVec 32 := Scalar.muli arg1 c8_i32_237
  let v397 : Index := Scalar.indexCast v396
  let c64_239 : Index := 64#32
  ![0, v397.toNat, 64]
def k0_off9 (i : grid0.Coords) (c0_i32_320 : BitVec 32) : Fin 4 → Nat :=
  let c0_321 : Index := 0#32
  let c160 : Index := 160#32
  let arg1 : BitVec 32 := BitVec.ofNat 32 (i 1).val
  let c8_i32_319 : BitVec 32 := 8#32
  let v496 : BitVec 32 := Scalar.muli arg1 c8_i32_319
  let v497 : BitVec 32 := Scalar.addi v496 c0_i32_320
  let v498 : Index := Scalar.indexCast v497
  let c0_322 : Index := 0#32
  ![0, 160, v498.toNat, 0]
def k0_off10 (i : grid0.Coords) : Fin 3 → Nat :=
  let c0_343 : Index := 0#32
  let arg1 : BitVec 32 := BitVec.ofNat 32 (i 1).val
  let c8_i32_342 : BitVec 32 := 8#32
  let v530 : BitVec 32 := Scalar.muli arg1 c8_i32_342
  let v531 : Index := Scalar.indexCast v530
  let c96_344 : Index := 96#32
  ![0, v531.toNat, 96]
def k0_off11 (i : grid0.Coords) (c0_i32_425 : BitVec 32) : Fin 4 → Nat :=
  let c0_426 : Index := 0#32
  let c192 : Index := 192#32
  let arg1 : BitVec 32 := BitVec.ofNat 32 (i 1).val
  let c8_i32_424 : BitVec 32 := 8#32
  let v630 : BitVec 32 := Scalar.muli arg1 c8_i32_424
  let v631 : BitVec 32 := Scalar.addi v630 c0_i32_425
  let v632 : Index := Scalar.indexCast v631
  let c0_427 : Index := 0#32
  ![0, 192, v632.toNat, 0]
def k0_off12 (i : grid0.Coords) : Fin 3 → Nat :=
  let c0_448 : Index := 0#32
  let arg1 : BitVec 32 := BitVec.ofNat 32 (i 1).val
  let c8_i32_447 : BitVec 32 := 8#32
  let v664 : BitVec 32 := Scalar.muli arg1 c8_i32_447
  let v665 : Index := Scalar.indexCast v664
  let c128_449 : Index := 128#32
  ![0, v665.toNat, 128]
def k0_off13 (i : grid0.Coords) (c0_i32_530 : BitVec 32) : Fin 4 → Nat :=
  let c0_531 : Index := 0#32
  let c224 : Index := 224#32
  let arg1 : BitVec 32 := BitVec.ofNat 32 (i 1).val
  let c8_i32_529 : BitVec 32 := 8#32
  let v764 : BitVec 32 := Scalar.muli arg1 c8_i32_529
  let v765 : BitVec 32 := Scalar.addi v764 c0_i32_530
  let v766 : Index := Scalar.indexCast v765
  let c0_532 : Index := 0#32
  ![0, 224, v766.toNat, 0]
def k0_off14 (i : grid0.Coords) : Fin 3 → Nat :=
  let c0_553 : Index := 0#32
  let arg1 : BitVec 32 := BitVec.ofNat 32 (i 1).val
  let c8_i32_552 : BitVec 32 := 8#32
  let v798 : BitVec 32 := Scalar.muli arg1 c8_i32_552
  let v799 : Index := Scalar.indexCast v798
  let c160_554 : Index := 160#32
  ![0, v799.toNat, 160]
def k0_off15 (i : grid0.Coords) (c0_i32_635 : BitVec 32) : Fin 4 → Nat :=
  let c0_636 : Index := 0#32
  let c256_637 : Index := 256#32
  let arg1 : BitVec 32 := BitVec.ofNat 32 (i 1).val
  let c8_i32_634 : BitVec 32 := 8#32
  let v898 : BitVec 32 := Scalar.muli arg1 c8_i32_634
  let v899 : BitVec 32 := Scalar.addi v898 c0_i32_635
  let v900 : Index := Scalar.indexCast v899
  let c0_638 : Index := 0#32
  ![0, 256, v900.toNat, 0]
def k0_off16 (i : grid0.Coords) : Fin 3 → Nat :=
  let c0_659 : Index := 0#32
  let arg1 : BitVec 32 := BitVec.ofNat 32 (i 1).val
  let c8_i32_658 : BitVec 32 := 8#32
  let v932 : BitVec 32 := Scalar.muli arg1 c8_i32_658
  let v933 : Index := Scalar.indexCast v932
  let c192_660 : Index := 192#32
  ![0, v933.toNat, 192]
def k0_off17 (i : grid0.Coords) (c0_i32_741 : BitVec 32) : Fin 4 → Nat :=
  let c0_742 : Index := 0#32
  let c288 : Index := 288#32
  let arg1 : BitVec 32 := BitVec.ofNat 32 (i 1).val
  let c8_i32_740 : BitVec 32 := 8#32
  let v1032 : BitVec 32 := Scalar.muli arg1 c8_i32_740
  let v1033 : BitVec 32 := Scalar.addi v1032 c0_i32_741
  let v1034 : Index := Scalar.indexCast v1033
  let c0_743 : Index := 0#32
  ![0, 288, v1034.toNat, 0]
def k0_off18 (i : grid0.Coords) : Fin 3 → Nat :=
  let c0_764 : Index := 0#32
  let arg1 : BitVec 32 := BitVec.ofNat 32 (i 1).val
  let c8_i32_763 : BitVec 32 := 8#32
  let v1066 : BitVec 32 := Scalar.muli arg1 c8_i32_763
  let v1067 : Index := Scalar.indexCast v1066
  let c224_765 : Index := 224#32
  ![0, v1067.toNat, 224]
def k0_off19 (i : grid0.Coords) (c0_i32_846 : BitVec 32) : Fin 4 → Nat :=
  let c0_847 : Index := 0#32
  let c320 : Index := 320#32
  let arg1 : BitVec 32 := BitVec.ofNat 32 (i 1).val
  let c8_i32_845 : BitVec 32 := 8#32
  let v1166 : BitVec 32 := Scalar.muli arg1 c8_i32_845
  let v1167 : BitVec 32 := Scalar.addi v1166 c0_i32_846
  let v1168 : Index := Scalar.indexCast v1167
  let c0_848 : Index := 0#32
  ![0, 320, v1168.toNat, 0]
def k0_off20 (i : grid0.Coords) : Fin 3 → Nat :=
  let c0_869 : Index := 0#32
  let arg1 : BitVec 32 := BitVec.ofNat 32 (i 1).val
  let c8_i32_868 : BitVec 32 := 8#32
  let v1200 : BitVec 32 := Scalar.muli arg1 c8_i32_868
  let v1201 : Index := Scalar.indexCast v1200
  let c256_870 : Index := 256#32
  ![0, v1201.toNat, 256]
def k0_off21 (i : grid0.Coords) (c0_i32_951 : BitVec 32) : Fin 4 → Nat :=
  let c0_952 : Index := 0#32
  let c352 : Index := 352#32
  let arg1 : BitVec 32 := BitVec.ofNat 32 (i 1).val
  let c8_i32_950 : BitVec 32 := 8#32
  let v1300 : BitVec 32 := Scalar.muli arg1 c8_i32_950
  let v1301 : BitVec 32 := Scalar.addi v1300 c0_i32_951
  let v1302 : Index := Scalar.indexCast v1301
  let c0_953 : Index := 0#32
  ![0, 352, v1302.toNat, 0]
def k0_off22 (i : grid0.Coords) : Fin 3 → Nat :=
  let c0_974 : Index := 0#32
  let arg1 : BitVec 32 := BitVec.ofNat 32 (i 1).val
  let c8_i32_973 : BitVec 32 := 8#32
  let v1334 : BitVec 32 := Scalar.muli arg1 c8_i32_973
  let v1335 : Index := Scalar.indexCast v1334
  let c288_975 : Index := 288#32
  ![0, v1335.toNat, 288]
def k0_off23 (i : grid0.Coords) (c0_i32_1056 : BitVec 32) : Fin 4 → Nat :=
  let c0_1057 : Index := 0#32
  let c384_1058 : Index := 384#32
  let arg1 : BitVec 32 := BitVec.ofNat 32 (i 1).val
  let c8_i32_1055 : BitVec 32 := 8#32
  let v1434 : BitVec 32 := Scalar.muli arg1 c8_i32_1055
  let v1435 : BitVec 32 := Scalar.addi v1434 c0_i32_1056
  let v1436 : Index := Scalar.indexCast v1435
  let c0_1059 : Index := 0#32
  ![0, 384, v1436.toNat, 0]
def k0_off24 (i : grid0.Coords) : Fin 3 → Nat :=
  let c0_1080 : Index := 0#32
  let arg1 : BitVec 32 := BitVec.ofNat 32 (i 1).val
  let c8_i32_1079 : BitVec 32 := 8#32
  let v1468 : BitVec 32 := Scalar.muli arg1 c8_i32_1079
  let v1469 : Index := Scalar.indexCast v1468
  let c320_1081 : Index := 320#32
  ![0, v1469.toNat, 320]
def k0_off25 (i : grid0.Coords) (c0_i32_1162 : BitVec 32) : Fin 4 → Nat :=
  let c0_1163 : Index := 0#32
  let c416 : Index := 416#32
  let arg1 : BitVec 32 := BitVec.ofNat 32 (i 1).val
  let c8_i32_1161 : BitVec 32 := 8#32
  let v1568 : BitVec 32 := Scalar.muli arg1 c8_i32_1161
  let v1569 : BitVec 32 := Scalar.addi v1568 c0_i32_1162
  let v1570 : Index := Scalar.indexCast v1569
  let c0_1164 : Index := 0#32
  ![0, 416, v1570.toNat, 0]
def k0_off26 (i : grid0.Coords) : Fin 3 → Nat :=
  let c0_1185 : Index := 0#32
  let arg1 : BitVec 32 := BitVec.ofNat 32 (i 1).val
  let c8_i32_1184 : BitVec 32 := 8#32
  let v1602 : BitVec 32 := Scalar.muli arg1 c8_i32_1184
  let v1603 : Index := Scalar.indexCast v1602
  let c352_1186 : Index := 352#32
  ![0, v1603.toNat, 352]
def k0_off27 (i : grid0.Coords) (c0_i32_1267 : BitVec 32) : Fin 4 → Nat :=
  let c0_1268 : Index := 0#32
  let c448 : Index := 448#32
  let arg1 : BitVec 32 := BitVec.ofNat 32 (i 1).val
  let c8_i32_1266 : BitVec 32 := 8#32
  let v1702 : BitVec 32 := Scalar.muli arg1 c8_i32_1266
  let v1703 : BitVec 32 := Scalar.addi v1702 c0_i32_1267
  let v1704 : Index := Scalar.indexCast v1703
  let c0_1269 : Index := 0#32
  ![0, 448, v1704.toNat, 0]
def k0_off28 (i : grid0.Coords) : Fin 3 → Nat :=
  let c0_1290 : Index := 0#32
  let arg1 : BitVec 32 := BitVec.ofNat 32 (i 1).val
  let c8_i32_1289 : BitVec 32 := 8#32
  let v1736 : BitVec 32 := Scalar.muli arg1 c8_i32_1289
  let v1737 : Index := Scalar.indexCast v1736
  let c384_1291 : Index := 384#32
  ![0, v1737.toNat, 384]
def k0_off29 (i : grid0.Coords) (c0_i32_1372 : BitVec 32) : Fin 4 → Nat :=
  let c0_1373 : Index := 0#32
  let c480 : Index := 480#32
  let arg1 : BitVec 32 := BitVec.ofNat 32 (i 1).val
  let c8_i32_1371 : BitVec 32 := 8#32
  let v1836 : BitVec 32 := Scalar.muli arg1 c8_i32_1371
  let v1837 : BitVec 32 := Scalar.addi v1836 c0_i32_1372
  let v1838 : Index := Scalar.indexCast v1837
  let c0_1374 : Index := 0#32
  ![0, 480, v1838.toNat, 0]
def k0_off30 (i : grid0.Coords) : Fin 3 → Nat :=
  let c0_1395 : Index := 0#32
  let arg1 : BitVec 32 := BitVec.ofNat 32 (i 1).val
  let c8_i32_1394 : BitVec 32 := 8#32
  let v1870 : BitVec 32 := Scalar.muli arg1 c8_i32_1394
  let v1871 : Index := Scalar.indexCast v1870
  let c416_1396 : Index := 416#32
  ![0, v1871.toNat, 416]
def k0_off31 (i : grid0.Coords) (c0_i32_1477 : BitVec 32) : Fin 4 → Nat :=
  let c0_1478 : Index := 0#32
  let c512_1479 : Index := 512#32
  let arg1 : BitVec 32 := BitVec.ofNat 32 (i 1).val
  let c8_i32_1476 : BitVec 32 := 8#32
  let v1970 : BitVec 32 := Scalar.muli arg1 c8_i32_1476
  let v1971 : BitVec 32 := Scalar.addi v1970 c0_i32_1477
  let v1972 : Index := Scalar.indexCast v1971
  let c0_1480 : Index := 0#32
  ![0, 512, v1972.toNat, 0]
def k0_off32 (i : grid0.Coords) : Fin 3 → Nat :=
  let c0_1501 : Index := 0#32
  let arg1 : BitVec 32 := BitVec.ofNat 32 (i 1).val
  let c8_i32_1500 : BitVec 32 := 8#32
  let v2004 : BitVec 32 := Scalar.muli arg1 c8_i32_1500
  let v2005 : Index := Scalar.indexCast v2004
  let c448_1502 : Index := 448#32
  ![0, v2005.toNat, 448]
def k0_off33 (i : grid0.Coords) (c0_i32_1583 : BitVec 32) : Fin 4 → Nat :=
  let c0_1584 : Index := 0#32
  let c544 : Index := 544#32
  let arg1 : BitVec 32 := BitVec.ofNat 32 (i 1).val
  let c8_i32_1582 : BitVec 32 := 8#32
  let v2104 : BitVec 32 := Scalar.muli arg1 c8_i32_1582
  let v2105 : BitVec 32 := Scalar.addi v2104 c0_i32_1583
  let v2106 : Index := Scalar.indexCast v2105
  let c0_1585 : Index := 0#32
  ![0, 544, v2106.toNat, 0]
def k0_off34 (i : grid0.Coords) : Fin 3 → Nat :=
  let c0_1606 : Index := 0#32
  let arg1 : BitVec 32 := BitVec.ofNat 32 (i 1).val
  let c8_i32_1605 : BitVec 32 := 8#32
  let v2138 : BitVec 32 := Scalar.muli arg1 c8_i32_1605
  let v2139 : Index := Scalar.indexCast v2138
  let c480_1607 : Index := 480#32
  ![0, v2139.toNat, 480]
def k0_off35 (i : grid0.Coords) (c0_i32_1688 : BitVec 32) : Fin 4 → Nat :=
  let c0_1689 : Index := 0#32
  let c576 : Index := 576#32
  let arg1 : BitVec 32 := BitVec.ofNat 32 (i 1).val
  let c8_i32_1687 : BitVec 32 := 8#32
  let v2238 : BitVec 32 := Scalar.muli arg1 c8_i32_1687
  let v2239 : BitVec 32 := Scalar.addi v2238 c0_i32_1688
  let v2240 : Index := Scalar.indexCast v2239
  let c0_1690 : Index := 0#32
  ![0, 576, v2240.toNat, 0]
def k0_off36 (i : grid0.Coords) : Fin 3 → Nat :=
  let c0_1711 : Index := 0#32
  let arg1 : BitVec 32 := BitVec.ofNat 32 (i 1).val
  let c8_i32_1710 : BitVec 32 := 8#32
  let v2272 : BitVec 32 := Scalar.muli arg1 c8_i32_1710
  let v2273 : Index := Scalar.indexCast v2272
  let c512_1712 : Index := 512#32
  ![0, v2273.toNat, 512]
def k0_off37 (i : grid0.Coords) (c0_i32_1793 : BitVec 32) : Fin 4 → Nat :=
  let c0_1794 : Index := 0#32
  let c608 : Index := 608#32
  let arg1 : BitVec 32 := BitVec.ofNat 32 (i 1).val
  let c8_i32_1792 : BitVec 32 := 8#32
  let v2372 : BitVec 32 := Scalar.muli arg1 c8_i32_1792
  let v2373 : BitVec 32 := Scalar.addi v2372 c0_i32_1793
  let v2374 : Index := Scalar.indexCast v2373
  let c0_1795 : Index := 0#32
  ![0, 608, v2374.toNat, 0]
def k0_off38 (i : grid0.Coords) : Fin 3 → Nat :=
  let c0_1816 : Index := 0#32
  let arg1 : BitVec 32 := BitVec.ofNat 32 (i 1).val
  let c8_i32_1815 : BitVec 32 := 8#32
  let v2406 : BitVec 32 := Scalar.muli arg1 c8_i32_1815
  let v2407 : Index := Scalar.indexCast v2406
  let c544_1817 : Index := 544#32
  ![0, v2407.toNat, 544]
def k0_off39 (i : grid0.Coords) (c0_i32_1898 : BitVec 32) : Fin 4 → Nat :=
  let c0_1899 : Index := 0#32
  let c640_1900 : Index := 640#32
  let arg1 : BitVec 32 := BitVec.ofNat 32 (i 1).val
  let c8_i32_1897 : BitVec 32 := 8#32
  let v2506 : BitVec 32 := Scalar.muli arg1 c8_i32_1897
  let v2507 : BitVec 32 := Scalar.addi v2506 c0_i32_1898
  let v2508 : Index := Scalar.indexCast v2507
  let c0_1901 : Index := 0#32
  ![0, 640, v2508.toNat, 0]
def k0_off40 (i : grid0.Coords) : Fin 3 → Nat :=
  let c0_1922 : Index := 0#32
  let arg1 : BitVec 32 := BitVec.ofNat 32 (i 1).val
  let c8_i32_1921 : BitVec 32 := 8#32
  let v2540 : BitVec 32 := Scalar.muli arg1 c8_i32_1921
  let v2541 : Index := Scalar.indexCast v2540
  let c576_1923 : Index := 576#32
  ![0, v2541.toNat, 576]
def k0_off41 (i : grid0.Coords) (c0_i32_2004 : BitVec 32) : Fin 4 → Nat :=
  let c0_2005 : Index := 0#32
  let c672 : Index := 672#32
  let arg1 : BitVec 32 := BitVec.ofNat 32 (i 1).val
  let c8_i32_2003 : BitVec 32 := 8#32
  let v2640 : BitVec 32 := Scalar.muli arg1 c8_i32_2003
  let v2641 : BitVec 32 := Scalar.addi v2640 c0_i32_2004
  let v2642 : Index := Scalar.indexCast v2641
  let c0_2006 : Index := 0#32
  ![0, 672, v2642.toNat, 0]
def k0_off42 (i : grid0.Coords) : Fin 3 → Nat :=
  let c0_2027 : Index := 0#32
  let arg1 : BitVec 32 := BitVec.ofNat 32 (i 1).val
  let c8_i32_2026 : BitVec 32 := 8#32
  let v2674 : BitVec 32 := Scalar.muli arg1 c8_i32_2026
  let v2675 : Index := Scalar.indexCast v2674
  let c608_2028 : Index := 608#32
  ![0, v2675.toNat, 608]
def k0_off43 (i : grid0.Coords) (c0_i32_2109 : BitVec 32) : Fin 4 → Nat :=
  let c0_2110 : Index := 0#32
  let c704 : Index := 704#32
  let arg1 : BitVec 32 := BitVec.ofNat 32 (i 1).val
  let c8_i32_2108 : BitVec 32 := 8#32
  let v2774 : BitVec 32 := Scalar.muli arg1 c8_i32_2108
  let v2775 : BitVec 32 := Scalar.addi v2774 c0_i32_2109
  let v2776 : Index := Scalar.indexCast v2775
  let c0_2111 : Index := 0#32
  ![0, 704, v2776.toNat, 0]
def k0_off44 (i : grid0.Coords) : Fin 3 → Nat :=
  let c0_2132 : Index := 0#32
  let arg1 : BitVec 32 := BitVec.ofNat 32 (i 1).val
  let c8_i32_2131 : BitVec 32 := 8#32
  let v2808 : BitVec 32 := Scalar.muli arg1 c8_i32_2131
  let v2809 : Index := Scalar.indexCast v2808
  let c640_2133 : Index := 640#32
  ![0, v2809.toNat, 640]
def k0_off45 (i : grid0.Coords) (c0_i32_2214 : BitVec 32) : Fin 4 → Nat :=
  let c0_2215 : Index := 0#32
  let c736 : Index := 736#32
  let arg1 : BitVec 32 := BitVec.ofNat 32 (i 1).val
  let c8_i32_2213 : BitVec 32 := 8#32
  let v2908 : BitVec 32 := Scalar.muli arg1 c8_i32_2213
  let v2909 : BitVec 32 := Scalar.addi v2908 c0_i32_2214
  let v2910 : Index := Scalar.indexCast v2909
  let c0_2216 : Index := 0#32
  ![0, 736, v2910.toNat, 0]
def k0_off46 (i : grid0.Coords) : Fin 3 → Nat :=
  let c0_2237 : Index := 0#32
  let arg1 : BitVec 32 := BitVec.ofNat 32 (i 1).val
  let c8_i32_2236 : BitVec 32 := 8#32
  let v2942 : BitVec 32 := Scalar.muli arg1 c8_i32_2236
  let v2943 : Index := Scalar.indexCast v2942
  let c672_2238 : Index := 672#32
  ![0, v2943.toNat, 672]
def k0_off47 (i : grid0.Coords) (c0_i32_2319 : BitVec 32) : Fin 4 → Nat :=
  let c0_2320 : Index := 0#32
  let c768_2321 : Index := 768#32
  let arg1 : BitVec 32 := BitVec.ofNat 32 (i 1).val
  let c8_i32_2318 : BitVec 32 := 8#32
  let v3042 : BitVec 32 := Scalar.muli arg1 c8_i32_2318
  let v3043 : BitVec 32 := Scalar.addi v3042 c0_i32_2319
  let v3044 : Index := Scalar.indexCast v3043
  let c0_2322 : Index := 0#32
  ![0, 768, v3044.toNat, 0]
def k0_off48 (i : grid0.Coords) : Fin 3 → Nat :=
  let c0_2343 : Index := 0#32
  let arg1 : BitVec 32 := BitVec.ofNat 32 (i 1).val
  let c8_i32_2342 : BitVec 32 := 8#32
  let v3076 : BitVec 32 := Scalar.muli arg1 c8_i32_2342
  let v3077 : Index := Scalar.indexCast v3076
  let c704_2344 : Index := 704#32
  ![0, v3077.toNat, 704]
def k0_off49 (i : grid0.Coords) (c0_i32_2425 : BitVec 32) : Fin 4 → Nat :=
  let c0_2426 : Index := 0#32
  let c800 : Index := 800#32
  let arg1 : BitVec 32 := BitVec.ofNat 32 (i 1).val
  let c8_i32_2424 : BitVec 32 := 8#32
  let v3176 : BitVec 32 := Scalar.muli arg1 c8_i32_2424
  let v3177 : BitVec 32 := Scalar.addi v3176 c0_i32_2425
  let v3178 : Index := Scalar.indexCast v3177
  let c0_2427 : Index := 0#32
  ![0, 800, v3178.toNat, 0]
def k0_off50 (i : grid0.Coords) : Fin 3 → Nat :=
  let c0_2448 : Index := 0#32
  let arg1 : BitVec 32 := BitVec.ofNat 32 (i 1).val
  let c8_i32_2447 : BitVec 32 := 8#32
  let v3210 : BitVec 32 := Scalar.muli arg1 c8_i32_2447
  let v3211 : Index := Scalar.indexCast v3210
  let c736_2449 : Index := 736#32
  ![0, v3211.toNat, 736]
def k0_off51 (i : grid0.Coords) (c0_i32_2530 : BitVec 32) : Fin 4 → Nat :=
  let c0_2531 : Index := 0#32
  let c832 : Index := 832#32
  let arg1 : BitVec 32 := BitVec.ofNat 32 (i 1).val
  let c8_i32_2529 : BitVec 32 := 8#32
  let v3310 : BitVec 32 := Scalar.muli arg1 c8_i32_2529
  let v3311 : BitVec 32 := Scalar.addi v3310 c0_i32_2530
  let v3312 : Index := Scalar.indexCast v3311
  let c0_2532 : Index := 0#32
  ![0, 832, v3312.toNat, 0]
def k0_off52 (i : grid0.Coords) : Fin 3 → Nat :=
  let c0_2553 : Index := 0#32
  let arg1 : BitVec 32 := BitVec.ofNat 32 (i 1).val
  let c8_i32_2552 : BitVec 32 := 8#32
  let v3344 : BitVec 32 := Scalar.muli arg1 c8_i32_2552
  let v3345 : Index := Scalar.indexCast v3344
  let c768_2554 : Index := 768#32
  ![0, v3345.toNat, 768]
def k0_off53 (i : grid0.Coords) (c0_i32_2635 : BitVec 32) : Fin 4 → Nat :=
  let c0_2636 : Index := 0#32
  let c864 : Index := 864#32
  let arg1 : BitVec 32 := BitVec.ofNat 32 (i 1).val
  let c8_i32_2634 : BitVec 32 := 8#32
  let v3444 : BitVec 32 := Scalar.muli arg1 c8_i32_2634
  let v3445 : BitVec 32 := Scalar.addi v3444 c0_i32_2635
  let v3446 : Index := Scalar.indexCast v3445
  let c0_2637 : Index := 0#32
  ![0, 864, v3446.toNat, 0]
def k0_off54 (i : grid0.Coords) : Fin 3 → Nat :=
  let c0_2658 : Index := 0#32
  let arg1 : BitVec 32 := BitVec.ofNat 32 (i 1).val
  let c8_i32_2657 : BitVec 32 := 8#32
  let v3478 : BitVec 32 := Scalar.muli arg1 c8_i32_2657
  let v3479 : Index := Scalar.indexCast v3478
  let c800_2659 : Index := 800#32
  ![0, v3479.toNat, 800]
def k0_off55 (i : grid0.Coords) (c0_i32_2740 : BitVec 32) : Fin 4 → Nat :=
  let c0_2741 : Index := 0#32
  let c896_2742 : Index := 896#32
  let arg1 : BitVec 32 := BitVec.ofNat 32 (i 1).val
  let c8_i32_2739 : BitVec 32 := 8#32
  let v3578 : BitVec 32 := Scalar.muli arg1 c8_i32_2739
  let v3579 : BitVec 32 := Scalar.addi v3578 c0_i32_2740
  let v3580 : Index := Scalar.indexCast v3579
  let c0_2743 : Index := 0#32
  ![0, 896, v3580.toNat, 0]
def k0_off56 (i : grid0.Coords) : Fin 3 → Nat :=
  let c0_2764 : Index := 0#32
  let arg1 : BitVec 32 := BitVec.ofNat 32 (i 1).val
  let c8_i32_2763 : BitVec 32 := 8#32
  let v3612 : BitVec 32 := Scalar.muli arg1 c8_i32_2763
  let v3613 : Index := Scalar.indexCast v3612
  let c832_2765 : Index := 832#32
  ![0, v3613.toNat, 832]
def k0_off57 (i : grid0.Coords) (c0_i32_2846 : BitVec 32) : Fin 4 → Nat :=
  let c0_2847 : Index := 0#32
  let c928 : Index := 928#32
  let arg1 : BitVec 32 := BitVec.ofNat 32 (i 1).val
  let c8_i32_2845 : BitVec 32 := 8#32
  let v3712 : BitVec 32 := Scalar.muli arg1 c8_i32_2845
  let v3713 : BitVec 32 := Scalar.addi v3712 c0_i32_2846
  let v3714 : Index := Scalar.indexCast v3713
  let c0_2848 : Index := 0#32
  ![0, 928, v3714.toNat, 0]
def k0_off58 (i : grid0.Coords) : Fin 3 → Nat :=
  let c0_2869 : Index := 0#32
  let arg1 : BitVec 32 := BitVec.ofNat 32 (i 1).val
  let c8_i32_2868 : BitVec 32 := 8#32
  let v3746 : BitVec 32 := Scalar.muli arg1 c8_i32_2868
  let v3747 : Index := Scalar.indexCast v3746
  let c864_2870 : Index := 864#32
  ![0, v3747.toNat, 864]
def k0_off59 (i : grid0.Coords) (c0_i32_2951 : BitVec 32) : Fin 4 → Nat :=
  let c0_2952 : Index := 0#32
  let c960 : Index := 960#32
  let arg1 : BitVec 32 := BitVec.ofNat 32 (i 1).val
  let c8_i32_2950 : BitVec 32 := 8#32
  let v3846 : BitVec 32 := Scalar.muli arg1 c8_i32_2950
  let v3847 : BitVec 32 := Scalar.addi v3846 c0_i32_2951
  let v3848 : Index := Scalar.indexCast v3847
  let c0_2953 : Index := 0#32
  ![0, 960, v3848.toNat, 0]
def k0_off60 (i : grid0.Coords) : Fin 3 → Nat :=
  let c0_2974 : Index := 0#32
  let arg1 : BitVec 32 := BitVec.ofNat 32 (i 1).val
  let c8_i32_2973 : BitVec 32 := 8#32
  let v3880 : BitVec 32 := Scalar.muli arg1 c8_i32_2973
  let v3881 : Index := Scalar.indexCast v3880
  let c896_2975 : Index := 896#32
  ![0, v3881.toNat, 896]
def k0_off61 (i : grid0.Coords) (c0_i32_3056 : BitVec 32) : Fin 4 → Nat :=
  let c0_3057 : Index := 0#32
  let c992 : Index := 992#32
  let arg1 : BitVec 32 := BitVec.ofNat 32 (i 1).val
  let c8_i32_3055 : BitVec 32 := 8#32
  let v3980 : BitVec 32 := Scalar.muli arg1 c8_i32_3055
  let v3981 : BitVec 32 := Scalar.addi v3980 c0_i32_3056
  let v3982 : Index := Scalar.indexCast v3981
  let c0_3058 : Index := 0#32
  ![0, 992, v3982.toNat, 0]
def k0_off62 (i : grid0.Coords) : Fin 3 → Nat :=
  let c0_3079 : Index := 0#32
  let arg1 : BitVec 32 := BitVec.ofNat 32 (i 1).val
  let c8_i32_3078 : BitVec 32 := 8#32
  let v4014 : BitVec 32 := Scalar.muli arg1 c8_i32_3078
  let v4015 : Index := Scalar.indexCast v4014
  let c928_3080 : Index := 928#32
  ![0, v4015.toNat, 928]
def k0_off63 (i : grid0.Coords) (c0_i32_3161 : BitVec 32) : Fin 4 → Nat :=
  let c0_3162 : Index := 0#32
  let c1024 : Index := 1024#32
  let arg1 : BitVec 32 := BitVec.ofNat 32 (i 1).val
  let c8_i32_3160 : BitVec 32 := 8#32
  let v4114 : BitVec 32 := Scalar.muli arg1 c8_i32_3160
  let v4115 : BitVec 32 := Scalar.addi v4114 c0_i32_3161
  let v4116 : Index := Scalar.indexCast v4115
  let c0_3163 : Index := 0#32
  ![0, 1024, v4116.toNat, 0]
def k0_off64 (i : grid0.Coords) : Fin 3 → Nat :=
  let c0_3184 : Index := 0#32
  let arg1 : BitVec 32 := BitVec.ofNat 32 (i 1).val
  let c8_i32_3183 : BitVec 32 := 8#32
  let v4148 : BitVec 32 := Scalar.muli arg1 c8_i32_3183
  let v4149 : Index := Scalar.indexCast v4148
  let c960_3185 : Index := 960#32
  ![0, v4149.toNat, 960]
def k0_off65 (i : grid0.Coords) (c0_i32_3266 : BitVec 32) : Fin 4 → Nat :=
  let c0_3267 : Index := 0#32
  let c1056 : Index := 1056#32
  let arg1 : BitVec 32 := BitVec.ofNat 32 (i 1).val
  let c8_i32_3265 : BitVec 32 := 8#32
  let v4248 : BitVec 32 := Scalar.muli arg1 c8_i32_3265
  let v4249 : BitVec 32 := Scalar.addi v4248 c0_i32_3266
  let v4250 : Index := Scalar.indexCast v4249
  let c0_3268 : Index := 0#32
  ![0, 1056, v4250.toNat, 0]
def k0_off66 (i : grid0.Coords) : Fin 3 → Nat :=
  let c0_3289 : Index := 0#32
  let arg1 : BitVec 32 := BitVec.ofNat 32 (i 1).val
  let c8_i32_3288 : BitVec 32 := 8#32
  let v4282 : BitVec 32 := Scalar.muli arg1 c8_i32_3288
  let v4283 : Index := Scalar.indexCast v4282
  let c992_3290 : Index := 992#32
  ![0, v4283.toNat, 992]
def k0_off67 (i : grid0.Coords) (c0_i32_3371 : BitVec 32) : Fin 4 → Nat :=
  let c0_3372 : Index := 0#32
  let c1088 : Index := 1088#32
  let arg1 : BitVec 32 := BitVec.ofNat 32 (i 1).val
  let c8_i32_3370 : BitVec 32 := 8#32
  let v4382 : BitVec 32 := Scalar.muli arg1 c8_i32_3370
  let v4383 : BitVec 32 := Scalar.addi v4382 c0_i32_3371
  let v4384 : Index := Scalar.indexCast v4383
  let c0_3373 : Index := 0#32
  ![0, 1088, v4384.toNat, 0]
def k0_off68 (i : grid0.Coords) : Fin 3 → Nat :=
  let c0_3394 : Index := 0#32
  let arg1 : BitVec 32 := BitVec.ofNat 32 (i 1).val
  let c8_i32_3393 : BitVec 32 := 8#32
  let v4416 : BitVec 32 := Scalar.muli arg1 c8_i32_3393
  let v4417 : Index := Scalar.indexCast v4416
  let c1024_3395 : Index := 1024#32
  ![0, v4417.toNat, 1024]
def k0_off69 (i : grid0.Coords) (c0_i32_3476 : BitVec 32) : Fin 4 → Nat :=
  let c0_3477 : Index := 0#32
  let c1120 : Index := 1120#32
  let arg1 : BitVec 32 := BitVec.ofNat 32 (i 1).val
  let c8_i32_3475 : BitVec 32 := 8#32
  let v4516 : BitVec 32 := Scalar.muli arg1 c8_i32_3475
  let v4517 : BitVec 32 := Scalar.addi v4516 c0_i32_3476
  let v4518 : Index := Scalar.indexCast v4517
  let c0_3478 : Index := 0#32
  ![0, 1120, v4518.toNat, 0]
def k0_off70 (i : grid0.Coords) : Fin 3 → Nat :=
  let c0_3499 : Index := 0#32
  let arg1 : BitVec 32 := BitVec.ofNat 32 (i 1).val
  let c8_i32_3498 : BitVec 32 := 8#32
  let v4550 : BitVec 32 := Scalar.muli arg1 c8_i32_3498
  let v4551 : Index := Scalar.indexCast v4550
  let c1056_3500 : Index := 1056#32
  ![0, v4551.toNat, 1056]
def k0_off71 (i : grid0.Coords) (c0_i32_3581 : BitVec 32) : Fin 4 → Nat :=
  let c0_3582 : Index := 0#32
  let c1152 : Index := 1152#32
  let arg1 : BitVec 32 := BitVec.ofNat 32 (i 1).val
  let c8_i32_3580 : BitVec 32 := 8#32
  let v4650 : BitVec 32 := Scalar.muli arg1 c8_i32_3580
  let v4651 : BitVec 32 := Scalar.addi v4650 c0_i32_3581
  let v4652 : Index := Scalar.indexCast v4651
  let c0_3583 : Index := 0#32
  ![0, 1152, v4652.toNat, 0]
def k0_off72 (i : grid0.Coords) : Fin 3 → Nat :=
  let c0_3604 : Index := 0#32
  let arg1 : BitVec 32 := BitVec.ofNat 32 (i 1).val
  let c8_i32_3603 : BitVec 32 := 8#32
  let v4684 : BitVec 32 := Scalar.muli arg1 c8_i32_3603
  let v4685 : Index := Scalar.indexCast v4684
  let c1088_3605 : Index := 1088#32
  ![0, v4685.toNat, 1088]
def k0_off73 (i : grid0.Coords) (c0_i32_3686 : BitVec 32) : Fin 4 → Nat :=
  let c0_3687 : Index := 0#32
  let c1184 : Index := 1184#32
  let arg1 : BitVec 32 := BitVec.ofNat 32 (i 1).val
  let c8_i32_3685 : BitVec 32 := 8#32
  let v4784 : BitVec 32 := Scalar.muli arg1 c8_i32_3685
  let v4785 : BitVec 32 := Scalar.addi v4784 c0_i32_3686
  let v4786 : Index := Scalar.indexCast v4785
  let c0_3688 : Index := 0#32
  ![0, 1184, v4786.toNat, 0]
def k0_off74 (i : grid0.Coords) : Fin 3 → Nat :=
  let c0_3709 : Index := 0#32
  let arg1 : BitVec 32 := BitVec.ofNat 32 (i 1).val
  let c8_i32_3708 : BitVec 32 := 8#32
  let v4818 : BitVec 32 := Scalar.muli arg1 c8_i32_3708
  let v4819 : Index := Scalar.indexCast v4818
  let c1120_3710 : Index := 1120#32
  ![0, v4819.toNat, 1120]
def k0_off75 (i : grid0.Coords) (c0_i32_3791 : BitVec 32) : Fin 4 → Nat :=
  let c0_3792 : Index := 0#32
  let c1216 : Index := 1216#32
  let arg1 : BitVec 32 := BitVec.ofNat 32 (i 1).val
  let c8_i32_3790 : BitVec 32 := 8#32
  let v4918 : BitVec 32 := Scalar.muli arg1 c8_i32_3790
  let v4919 : BitVec 32 := Scalar.addi v4918 c0_i32_3791
  let v4920 : Index := Scalar.indexCast v4919
  let c0_3793 : Index := 0#32
  ![0, 1216, v4920.toNat, 0]
def k0_off76 (i : grid0.Coords) : Fin 3 → Nat :=
  let c0_3814 : Index := 0#32
  let arg1 : BitVec 32 := BitVec.ofNat 32 (i 1).val
  let c8_i32_3813 : BitVec 32 := 8#32
  let v4952 : BitVec 32 := Scalar.muli arg1 c8_i32_3813
  let v4953 : Index := Scalar.indexCast v4952
  let c1152_3815 : Index := 1152#32
  ![0, v4953.toNat, 1152]
def k0_off77 (i : grid0.Coords) (c0_i32_3896 : BitVec 32) : Fin 4 → Nat :=
  let c0_3897 : Index := 0#32
  let c1248 : Index := 1248#32
  let arg1 : BitVec 32 := BitVec.ofNat 32 (i 1).val
  let c8_i32_3895 : BitVec 32 := 8#32
  let v5052 : BitVec 32 := Scalar.muli arg1 c8_i32_3895
  let v5053 : BitVec 32 := Scalar.addi v5052 c0_i32_3896
  let v5054 : Index := Scalar.indexCast v5053
  let c0_3898 : Index := 0#32
  ![0, 1248, v5054.toNat, 0]
def k0_off78 (i : grid0.Coords) : Fin 3 → Nat :=
  let c0_3919 : Index := 0#32
  let arg1 : BitVec 32 := BitVec.ofNat 32 (i 1).val
  let c8_i32_3918 : BitVec 32 := 8#32
  let v5086 : BitVec 32 := Scalar.muli arg1 c8_i32_3918
  let v5087 : Index := Scalar.indexCast v5086
  let c1184_3920 : Index := 1184#32
  ![0, v5087.toNat, 1184]
def k0_off79 (i : grid0.Coords) : Fin 3 → Nat :=
  let c0_3997 : Index := 0#32
  let arg1 : BitVec 32 := BitVec.ofNat 32 (i 1).val
  let c8_i32_3996 : BitVec 32 := 8#32
  let v5184 : BitVec 32 := Scalar.muli arg1 c8_i32_3996
  let v5185 : Index := Scalar.indexCast v5184
  let c1216_3998 : Index := 1216#32
  ![0, v5185.toNat, 1216]
def k0_off80 (i : grid0.Coords) : Fin 3 → Nat :=
  let c0_4075 : Index := 0#32
  let arg1 : BitVec 32 := BitVec.ofNat 32 (i 1).val
  let c8_i32_4074 : BitVec 32 := 8#32
  let v5282 : BitVec 32 := Scalar.muli arg1 c8_i32_4074
  let v5283 : Index := Scalar.indexCast v5282
  let c1248_4076 : Index := 1248#32
  ![0, v5283.toNat, 1248]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1280x16x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x16x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1280x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1280x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x128x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1280x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "logit_scale" => some (((Real.sqrt 128)⁻¹ * (Real.log 2)⁻¹ : ℝ) : EReal)
  | "mask" => some ⊥
  | _ => none
-- ==== ReferenceIdeal.lean ====
abbrev S4x1280x16x128 : Shape := ⟨4, ![4, 1280, 16, 128]⟩
abbrev S4x1280x16 : Shape := ⟨3, ![4, 1280, 16]⟩
abbrev S4x2x1280x128 : Shape := ⟨4, ![4, 2, 1280, 128]⟩
abbrev S4x1280x2 : Shape := ⟨3, ![4, 1280, 2]⟩
abbrev S4x1280x2x128 : Shape := ⟨4, ![4, 1280, 2, 128]⟩
abbrev S4x1280x2x8x128 : Shape := ⟨5, ![4, 1280, 2, 8, 128]⟩
abbrev S4x2x1280x8x128 : Shape := ⟨5, ![4, 2, 1280, 8, 128]⟩
abbrev S4x1280x2x8 : Shape := ⟨4, ![4, 1280, 2, 8]⟩
abbrev S4x2x1280x8 : Shape := ⟨4, ![4, 2, 1280, 8]⟩
abbrev S4x2x1280 : Shape := ⟨3, ![4, 2, 1280]⟩
abbrev S4x2x1280x8x1280 : Shape := ⟨5, ![4, 2, 1280, 8, 1280]⟩
abbrev S4x2x1280x8x1 : Shape := ⟨5, ![4, 2, 1280, 8, 1]⟩
abbrev S4x2x1x1x1280 : Shape := ⟨5, ![4, 2, 1, 1, 1280]⟩
abbrev S_ : Shape := ⟨0, ![]⟩
abbrev S1280x1280 : Shape := ⟨2, ![1280, 1280]⟩
abbrev S1280x1x1280 : Shape := ⟨3, ![1280, 1, 1280]⟩
abbrev S4x2x128x1280x8 : Shape := ⟨5, ![4, 2, 128, 1280, 8]⟩
abbrev S4x1280x2048 : Shape := ⟨3, ![4, 1280, 2048]⟩

abbrev nBuf : Space → Nat
  | .hbm => 52
  | .vmem => 4
  | .smem => 0
  | _ => 0

abbrev bufTy : (tb : Table) → Fin (tcTables nBuf tb) → BufTy
  | .hbm, ⟨0, _⟩ => ⟨S4x1280x16x128, .fp8e4m3⟩
  | .hbm, ⟨1, _⟩ => ⟨S4x1280x16, .f32⟩
  | .hbm, ⟨2, _⟩ => ⟨S4x2x1280x128, .fp8e4m3⟩
  | .hbm, ⟨3, _⟩ => ⟨S4x1280x2, .f32⟩
  | .hbm, ⟨4, _⟩ => ⟨S4x1280x2x128, .bf16⟩
  | .hbm, ⟨5, _⟩ => ⟨S4x1280x16x128, .f32⟩
  | .hbm, ⟨6, _⟩ => ⟨S4x2x1280x128, .f32⟩
  | .hbm, ⟨7, _⟩ => ⟨S4x1280x2x8x128, .f32⟩
  | .hbm, ⟨8, _⟩ => ⟨S4x2x1280x8x128, .f32⟩
  | .hbm, ⟨9, _⟩ => ⟨S4x1280x2x8, .f32⟩
  | .hbm, ⟨10, _⟩ => ⟨S4x2x1280x8, .f32⟩
  | .hbm, ⟨11, _⟩ => ⟨S4x2x1280, .f32⟩
  | .hbm, ⟨12, _⟩ => ⟨S4x2x1280x8x1280, .f32⟩
  | .hbm, ⟨13, _⟩ => ⟨S4x2x1280x8x1, .f32⟩
  | .hbm, ⟨14, _⟩ => ⟨S4x2x1280x8x1280, .f32⟩
  | .hbm, ⟨15, _⟩ => ⟨S4x2x1280x8x1280, .f32⟩
  | .hbm, ⟨16, _⟩ => ⟨S4x2x1x1x1280, .f32⟩
  | .hbm, ⟨17, _⟩ => ⟨S4x2x1280x8x1280, .f32⟩
  | .hbm, ⟨18, _⟩ => ⟨S4x2x1280x8x1280, .f32⟩
  | .hbm, ⟨19, _⟩ => ⟨S_, .f32⟩
  | .hbm, ⟨20, _⟩ => ⟨S_, .f32⟩
  | .hbm, ⟨21, _⟩ => ⟨S4x2x1280x8x1280, .f32⟩
  | .hbm, ⟨22, _⟩ => ⟨S4x2x1280x8x1280, .f32⟩
  | .hbm, ⟨23, _⟩ => ⟨S1280x1280, .i32⟩
  | .hbm, ⟨24, _⟩ => ⟨S1280x1280, .i32⟩
  | .hbm, ⟨25, _⟩ => ⟨S1280x1280, .i1⟩
  | .hbm, ⟨26, _⟩ => ⟨S1280x1x1280, .i1⟩
  | .hbm, ⟨27, _⟩ => ⟨S_, .f32⟩
  | .hbm, ⟨28, _⟩ => ⟨S_, .f32⟩
  | .hbm, ⟨29, _⟩ => ⟨S4x2x1280x8x1280, .i1⟩
  | .hbm, ⟨30, _⟩ => ⟨S4x2x1280x8x1280, .f32⟩
  | .hbm, ⟨31, _⟩ => ⟨S4x2x1280x8x1280, .f32⟩
  | .hbm, ⟨32, _⟩ => ⟨S_, .f32⟩
  | .hbm, ⟨33, _⟩ => ⟨S4x2x1280x8, .f32⟩
  | .hbm, ⟨34, _⟩ => ⟨S4x2x1280x8x1, .f32⟩
  | .hbm, ⟨35, _⟩ => ⟨S4x2x1280x8x1280, .f32⟩
  | .hbm, ⟨36, _⟩ => ⟨S4x2x1280x8x1280, .f32⟩
  | .hbm, ⟨37, _⟩ => ⟨S4x2x1280x8x1280, .f32⟩
  | .hbm, ⟨38, _⟩ => ⟨S_, .f32⟩
  | .hbm, ⟨39, _⟩ => ⟨S4x2x1280x8, .f32⟩
  | .hbm, ⟨40, _⟩ => ⟨S4x2x1280x8x1, .f32⟩
  | .hbm, ⟨41, _⟩ => ⟨S_, .f32⟩
  | .hbm, ⟨42, _⟩ => ⟨S4x2x1280x8x1, .f32⟩
  | .hbm, ⟨43, _⟩ => ⟨S4x2x1280x8x1, .f32⟩
  | .hbm, ⟨44, _⟩ => ⟨S4x2x1280x8x1280, .f32⟩
  | .hbm, ⟨45, _⟩ => ⟨S4x2x1280x8x1280, .f32⟩
  | .hbm, ⟨46, _⟩ => ⟨S4x2x1280x8x1280, .bf16⟩
  | .hbm, ⟨47, _⟩ => ⟨S4x2x1280x128, .bf16⟩
  | .hbm, ⟨48, _⟩ => ⟨S4x2x128x1280x8, .f32⟩
  | .hbm, ⟨49, _⟩ => ⟨S4x1280x2x8x128, .f32⟩
  | .hbm, ⟨50, _⟩ => ⟨S4x1280x2048, .f32⟩
  | .hbm, ⟨51, _⟩ => ⟨S4x1280x2048, .bf16⟩
  | .local _ .vmem, ⟨0, _⟩ => ⟨S4x1280x16x128, .fp8e4m3⟩
  | .local _ .vmem, ⟨1, _⟩ => ⟨S4x2x1280x128, .fp8e4m3⟩
  | .local _ .vmem, ⟨2, _⟩ => ⟨S4x1280x16x128, .f32⟩
  | .local _ .vmem, ⟨3, _⟩ => ⟨S4x2x1280x128, .f32⟩
  | _, _ => ⟨S4x1280x16x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S4x1280x16x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x2x1280x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1280x16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x2x1280x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Masks.lean ====
module

public import proofs.«01_k».proof.Proof.Gen.KernelIdeal.Frame.RunA
public import Idealize.ShloMosaic.Lib.Pointwise

@[expose] public section

namespace Cert.Attention

open Idealize.ShloMosaic Cert.KernelIdeal

/-- The causal mask of a tile's last strip of keys: lane `l` holds the row of token `l % 128 / 4`, and sees the keys up to that token. -/
theorem mask_apply : ∀ (k : Fin 32) (l : Fin 256),
    Gen.kernelRun0_A.sl.v28 (ix2 k l) = if k.val ≤ l.val % 128 / 4 then 1#1 else 0#1 := by
  decide +kernel
/-- The matrix that spreads one scale per token over the four lanes of the token. -/
theorem expand_word : ∀ (k : Fin 32) (l : Fin 128),
    Gen.kernelRun0_A.sl.v56 (ix2 k l) = if k.val = l.val / 4 then 1#32 else 0#32 := by
  decide +kernel
/-- The heads of which a lane keeps the scale: the one of its own residue mod four. -/
theorem pick_apply : ∀ (h : Fin 8) (l : Fin 128),
    Gen.k0_pay10 Gen.kernelRun0_A.sl.v75 Gen.kernelRun0_A.sl.v91 (ix2 h l) = if h.val % 4 = l.val % 4 then 1#1 else 0#1 := by
  decide +kernel

end Cert.Attention

end
-- ==== Proof.Tile.lean ====
module

public import proofs.«01_k».proof.KernelIdeal
public import proofs.«01_k».proof.Proof.Gen.KernelIdeal.Frame.RunA
public import Idealize.ShloMosaic.Lib.Pointwise
public import Idealize.ShloMosaic.Lib.MatmulPlain
public import Idealize.ShloMosaic.Lib.ValueIdx
public import proofs.«01_k».proof.Proof.Masks

@[expose] public section

noncomputable section

namespace Cert.Attention

open Idealize.ShloMosaic Cert.KernelIdeal

theorem cast_lead (n m : ℕ) : (⟨3, ![1, n, m]⟩ : Shape).ShapeCasts ⟨2, ![n, m]⟩ := by
  simp [Shape.ShapeCasts, Shape.numel, Fin.prod_univ_succ]
theorem cast_tail (n m : ℕ) : (⟨2, ![n, m]⟩ : Shape).ShapeCasts ⟨3, ![1, n, m]⟩ := by
  simp [Shape.ShapeCasts, Shape.numel, Fin.prod_univ_succ]
theorem cast_lead2 (n m : ℕ) : (⟨4, ![1, 1, n, m]⟩ : Shape).ShapeCasts ⟨2, ![n, m]⟩ := by
  simp [Shape.ShapeCasts, Shape.numel, Fin.prod_univ_succ]
theorem twice_cols (n m : ℕ) :
    Shape.Concatenates [(⟨2, ![n, m]⟩ : Shape), ⟨2, ![n, m]⟩] ⟨2, ![n, m + m]⟩ 1 := by
  refine ⟨by simp, ?_, ?_⟩
  · intro s hs
    obtain rfl : s = _ := by simpa using hs
    refine ⟨rfl, fun b hb => ?_⟩
    fin_cases b
    · rfl
    · simp at hb
  · simp
theorem row_broadcasts (n m : ℕ) : (⟨2, ![1, m]⟩ : Shape).Broadcasts ⟨2, ![n, m]⟩ := by
  refine ⟨le_rfl, fun a => ?_⟩
  fin_cases a
  · exact Or.inl rfl
  · exact Or.inr fun _ => rfl
theorem col_reduces (n m : ℕ) : (⟨2, ![n, m]⟩ : Shape).Reduces [0] ⟨1, ![m]⟩ :=
  ⟨rfl, ⟨Nat.one_pos, fun b => by fin_cases b; rfl⟩⟩
theorem rows_slices {n o k m : ℕ} (h : o + k ≤ n) : (⟨2, ![n, m]⟩ : Shape).Slices ![o, 0] ⟨2, ![k, m]⟩ :=
  ⟨rfl, fun a => by fin_cases a <;> simp [h]⟩

theorem stack_queries : Shape.Concatenates [S128x128, S128x128] S256x128 0 := by decide
theorem join_lanes : Shape.Concatenates [S1x128, S1x128] S1x256 1 := by decide

/-- The 256 query rows of one tile. -/
def queries (q0 q1 : FVec Ideal S1x32x4x128 .fp8e4m3) : FVec Ideal S256x128 .fp8e4m3 :=
  concatenate S256x128 0 [⟨S128x128, shapeCast S128x128 (shapeCast S32x4x128 q0 (by decide)) (by decide)⟩,
    ⟨S128x128, shapeCast S128x128 (shapeCast S32x4x128 q1 (by decide)) (by decide)⟩] stack_queries

/-- The scores of the first `n` keys. -/
def scores (n : ℕ) (kc : FVec Ideal ⟨4, ![1, 1, n, 128]⟩ .fp8e4m3) (q0 q1 : FVec Ideal S1x32x4x128 .fp8e4m3)
    (kw : FVec Ideal ⟨4, ![1, 1, n, 128]⟩ .f32) : FVec Ideal ⟨2, ![n, 256]⟩ .f32 :=
  mulf (matmul (DotDims.transposedRhs n 128 256) none (shapeCast ⟨2, ![n, 128]⟩ kc (cast_lead2 n 128)) (queries q0 q1)
      (constant ⟨2, ![n, 256]⟩ .f32 0x00000000#32))
    (concatenate ⟨2, ![n, 256]⟩ 1 [⟨⟨2, ![n, 128]⟩, shapeCast ⟨2, ![n, 128]⟩ kw (cast_lead2 n 128)⟩,
      ⟨⟨2, ![n, 128]⟩, shapeCast ⟨2, ![n, 128]⟩ kw (cast_lead2 n 128)⟩] (twice_cols n 128))

/-- The masked last strip of a block of scores. -/
def strip (mask : IVec S32x256 1) (x : FVec Ideal S32x256 .f32) : FVec Ideal S32x256 .f32 :=
  select mask x (broadcast S32x256 (Named.named κ "mask" 0xF149F2CA#32 : Ideal .f32))

/-- The column maxima of a block. -/
def colMax (n : ℕ) (x : FVec Ideal ⟨2, ![n, 256]⟩ .f32) : FVec Ideal S1x256 .f32 :=
  shapeCast S1x256 (multiReduction .maximumf [0] S256 x 0xFF800000#32 (col_reduces n 256) (.inl rfl) rfl) (by decide)

/-- The scale of each lane. -/
def laneScale (expand : FVec Ideal S32x128 .bf16) (pick : IVec S8x128 1) (qs : FVec Ideal S1x8x32 .f32) : FVec Ideal S1x256 .f32 :=
  let w : FVec Ideal S8x128 .f32 := mulf (select pick
      (matmul (DotDims.plain 8 32 128) none (truncf .bf16 (shapeCast S8x32 qs (by decide)) (by decide) : FVec Ideal S8x32 .bf16) expand
        (constant S8x128 .f32 0x00000000#32))
      (broadcast S8x128 (Scalar.ofBits .f32 0x00000000#32 : Ideal .f32)))
    (broadcast S8x128 (Named.named κ "logit_scale" 0x3E0293EE#32 : Ideal .f32))
  concatenate S1x256 1
    [⟨S1x128, shapeCast S1x128 (multiReduction .add [0] S128 (extractStridedSlice S4x128 ![0, 0] w (by decide)) 0x00000000#32 (by decide) (.inl rfl) rfl) (by decide)⟩,
     ⟨S1x128, shapeCast S1x128 (multiReduction .add [0] S128 (extractStridedSlice S4x128 ![4, 0] w (by decide)) 0x00000000#32 (by decide) (.inl rfl) rfl) (by decide)⟩] join_lanes

/-- The unnormalised weights of a block. -/
def weights (n : ℕ) (x : FVec Ideal ⟨3, ![1, n, 256]⟩ .f32) (m c : FVec Ideal S1x256 .f32) : FVec Ideal ⟨2, ![n, 256]⟩ .f32 :=
  exp2 (subf (mulf (shapeCast ⟨2, ![n, 256]⟩ x (cast_lead n 256)) (broadcastTo ⟨2, ![n, 256]⟩ c (row_broadcasts n 256)))
    (broadcastTo ⟨2, ![n, 256]⟩ (mulf m c) (row_broadcasts n 256)))

/-- The reciprocal of each lane's sum of weights. -/
def reciprocal (n : ℕ) (p : FVec Ideal ⟨2, ![n, 256]⟩ .f32) : FVec Ideal S1x256 .f32 :=
  divf (broadcast S1x256 (Scalar.ofBits .f32 0x3F800000#32 : Ideal .f32))
    (shapeCast S1x256 (multiReduction .add [0] S256 p 0x00000000#32 (col_reduces n 256) (.inl rfl) rfl) (by decide))

/-- The weighted sum of the values. -/
def combine (n : ℕ) (v : FVec Ideal ⟨4, ![1, 1, 128, n]⟩ .bf16) (p : FVec Ideal ⟨3, ![1, n, 256]⟩ .bf16) (r : FVec Ideal S1x256 .f32) :
    FVec Ideal S128x256 .f32 :=
  mulf (matmul (DotDims.plain 128 n 256) none (shapeCast ⟨2, ![128, n]⟩ v (cast_lead2 128 n)) (shapeCast ⟨2, ![n, 256]⟩ p (cast_lead n 256))
      (constant S128x256 .f32 0x00000000#32))
    (broadcastTo S128x256 r (by decide))

theorem lead2_eq {α : Type} {n m : ℕ} (x : (⟨4, ![1, 1, n, m]⟩ : Shape).Idx → α) (h) :
    shapeCast ⟨2, ![n, m]⟩ x h = fun i => x (ix4 0 0 (i 0) (i 1)) := by
  funext i
  refine shapeCast_apply _ _ _ _ ?_
  simp [Shape.rowMajor_val_four, Shape.rowMajor_val_two]

theorem lead_eq {α : Type} {n m : ℕ} (x : (⟨3, ![1, n, m]⟩ : Shape).Idx → α) (h) :
    shapeCast ⟨2, ![n, m]⟩ x h = fun i => x (ix3 0 (i 0) (i 1)) := by
  funext i
  refine shapeCast_apply _ _ _ _ ?_
  simp [Shape.rowMajor_val_three, Shape.rowMajor_val_two]

theorem combine_apply (n : ℕ) (v : FVec Ideal ⟨4, ![1, 1, 128, n]⟩ .bf16) (p : FVec Ideal ⟨3, ![1, n, 256]⟩ .bf16) (r : FVec Ideal S1x256 .f32)
    (d : Fin 128) (l : Fin 256) :
    combine n v p r (ix2 d l) = (∑ k : Fin n, v (ix4 0 0 d k) * p (ix3 0 k l)) * r (ix2 0 l) := by
  unfold combine
  rw [lead2_eq, lead_eq]
  have h := Ideal.matmul_plain_apply (M := 128) (K := n) (N := 256) (φ₁ := .bf16) (φ₂ := .bf16) none
    (fun i => v (ix4 0 0 (i 0) (i 1))) (fun i => p (ix3 0 (i 0) (i 1))) (constant S128x256 .f32 0x00000000#32) d l
  simp only [← ix2_eq_valueIdx] at h
  rw [mulf_apply, matmul, h]
  pointwise
  rfl

theorem scores_apply (n : ℕ) (kc : FVec Ideal ⟨4, ![1, 1, n, 128]⟩ .fp8e4m3) (q0 q1 : FVec Ideal S1x32x4x128 .fp8e4m3)
    (kw : FVec Ideal ⟨4, ![1, 1, n, 128]⟩ .f32) (k : Fin n) (l : Fin 256) :
    scores n kc q0 q1 kw (ix2 k l)
      = (∑ d : Fin 128, kc (ix4 0 0 k d) * queries q0 q1 (ix2 l d)) * kw (ix4 0 0 k ⟨l % 128, by omega⟩) := by
  unfold scores
  rw [lead2_eq, lead2_eq]
  have h := Ideal.matmul_transposedRhs_apply (M := n) (K := 128) (N := 256) (φ₁ := .fp8e4m3) (φ₂ := .fp8e4m3) none
    (fun i => kc (ix4 0 0 (i 0) (i 1))) (queries q0 q1) (constant ⟨2, ![n, 256]⟩ .f32 0x00000000#32) k l
  simp only [← ix2_eq_valueIdx] at h
  rw [mulf_apply, matmul, h]
  pointwise
  refine congrArg (_ * ·) ?_
  split_ifs with h
  · exact congrArg kw (congrArg (ix4 0 0 k) (Fin.ext (show l.val = l.val % 128 by omega)))
  · exact congrArg kw (congrArg (ix4 0 0 k) (Fin.ext (show l.val - 128 = l.val % 128 by omega)))

theorem weights_apply (n : ℕ) (x : FVec Ideal ⟨3, ![1, n, 256]⟩ .f32) (m c : FVec Ideal S1x256 .f32) (k : Fin n) (l : Fin 256) :
    weights n x m c (ix2 k l) = Ideal.exp2 (x (ix3 0 k l) * c (ix2 0 l) - m (ix2 0 l) * c (ix2 0 l)) := by
  unfold weights
  rw [lead_eq]
  pointwise
  rfl

theorem reciprocal_apply (n : ℕ) (p : FVec Ideal ⟨2, ![n, 256]⟩ .f32) (l : Fin 256) :
    reciprocal n p (ix2 0 l) = Ideal.div 1 (∑ k : Fin n, p (ix2 k l)) := by
  pointwise [reciprocal]

theorem neg_inf_bits : Ideal.ofBits .f32 0xFF800000#32 = ⊥ := by
  simp [Ideal.ofBits, Ideal.ieee]

theorem colMax_apply (n : ℕ) (x : FVec Ideal ⟨2, ![n, 256]⟩ .f32) (l : Fin 256) :
    colMax n x (ix2 0 l) = Finset.univ.sup fun k : Fin n => x (ix2 k l) := by
  pointwise [colMax]
  rw [neg_inf_bits]
  rfl

theorem ix4_mid {n0 n1 n2 n3 : ℕ} (z : Fin n0) {a a' : Fin n1} {b b' : Fin n2} (h : a.val = a'.val) (h' : b.val = b'.val) (d : Fin n3) :
    ix4 z a b d = ix4 z a' b' d := by
  rw [Fin.ext h, Fin.ext h']

theorem ix3_mid {n0 n1 n2 : ℕ} (z : Fin n0) {a a' : Fin n1} {b b' : Fin n2} (h : a.val = a'.val) (h' : b.val = b'.val) :
    ix3 z a b = ix3 z a' b' := by
  rw [Fin.ext h, Fin.ext h']

theorem queries_apply (q0 q1 : FVec Ideal S1x32x4x128 .fp8e4m3) (l : Fin 256) (d : Fin 128) :
    queries q0 q1 (ix2 l d) = if l.val < 128 then q0 (ix4 0 ⟨l % 128 / 4, by omega⟩ ⟨l % 4, by omega⟩ d)
      else q1 (ix4 0 ⟨l % 128 / 4, by omega⟩ ⟨l % 4, by omega⟩ d) := by
  pointwise [queries]
  split_ifs with h h1
  · exact congrArg q0 (ix4_mid _ (by simp; omega) rfl _)
  · exact congrArg q1 (ix4_mid _ (by simp; omega) (by simp; omega) _)
  · exact absurd rfl h1

theorem strip_apply (mask : IVec S32x256 1) (x : FVec Ideal S32x256 .f32) (k : Fin 32) (l : Fin 256) :
    strip mask x (ix2 k l) = if mask (ix2 k l) = 1#1 then x (ix2 k l) else ⊥ := by
  have h : (Named.named κ "mask" 0xF149F2CA#32 : Ideal .f32) = ⊥ := IdealRules.named_const.ideal_named_scalar _ _ _ _ rfl
  pointwise [strip]
  rw [h]
  rfl

theorem expand_apply (k : Fin 32) (l : Fin 128) :
    (Gen.kernelRun0_A.sl.v58 : FVec Ideal S32x128 .bf16) (ix2 k l) = if k.val = l.val / 4 then 1 else 0 := by
  show (((Gen.kernelRun0_A.sl.v56 (ix2 k l)).toInt : ℝ) : EReal) = _
  rw [expand_word]
  split_ifs <;> simp

theorem sum_expand (f : Fin 32 → EReal) (t : ℕ) (h : t < 32) :
    (∑ x : Fin 32, f x * if x.val = t then 1 else 0) = f ⟨t, h⟩ := by
  rw [Finset.sum_eq_single ⟨t, h⟩]
  · simp
  · intro x _ hx
    rw [if_neg (fun e => hx (Fin.ext e)), mul_zero]
  · simp

theorem sum_pick (g : Fin 4 → EReal) (o t : ℕ) (ho : o % 4 = 0) :
    (∑ x : Fin 4, Scalar.select (if (o + x.val) % 4 = t % 4 then 1#1 else 0#1) (g x) 0) = g ⟨t % 4, by omega⟩ := by
  rw [Finset.sum_eq_single ⟨t % 4, by omega⟩]
  · rw [if_pos (by show (o + t % 4) % 4 = t % 4; omega)]; rfl
  · intro x _ hx
    rw [if_neg (fun e => hx (Fin.ext (show x.val = t % 4 by omega)))]; rfl
  · simp

theorem laneScale_apply (qs : FVec Ideal S1x8x32 .f32) (l : Fin 256) :
    laneScale Gen.kernelRun0_A.sl.v58 (Gen.k0_pay10 Gen.kernelRun0_A.sl.v75 Gen.kernelRun0_A.sl.v91) qs (ix2 0 l)
      = qs (ix3 0 ⟨4 * (l / 128) + l % 4, by omega⟩ ⟨l % 128 / 4, by omega⟩) * (((Real.sqrt 128)⁻¹ * (Real.log 2)⁻¹ : ℝ) : EReal) := by
  have hn : (Named.named κ "logit_scale" 0x3E0293EE#32 : Ideal .f32) = (((Real.sqrt 128)⁻¹ * (Real.log 2)⁻¹ : ℝ) : EReal) :=
    IdealRules.named_const.ideal_named_scalar _ _ _ _ rfl
  pointwise [laneScale]
  simp only [hn, pick_apply, expand_apply]
  split_ifs with h h1
  · have h0 := sum_pick (fun x => (∑ y : Fin 32, qs (ix3 0 ⟨0 + x.val, by omega⟩ y) * if y.val = l.val / 4 then 1 else 0)
      * (((Real.sqrt 128)⁻¹ * (Real.log 2)⁻¹ : ℝ) : EReal)) 0 l.val rfl
    simp only [sum_expand _ _ (show l.val / 4 < 32 by omega), Nat.zero_add] at h0 ⊢
    rw [h0]
    exact congrArg (· * _) (congrArg qs (ix3_mid _ (by simp; omega) (by simp; omega)))
  · have h0 := sum_pick (fun x => (∑ y : Fin 32, qs (ix3 0 ⟨4 + x.val, by omega⟩ y) * if y.val = (l.val - 128) / 4 then 1 else 0)
      * (((Real.sqrt 128)⁻¹ * (Real.log 2)⁻¹ : ℝ) : EReal)) 4 (l.val - 128) rfl
    simp only [sum_expand _ _ (show (l.val - 128) / 4 < 32 by omega)] at h0 ⊢
    rw [h0]
    exact congrArg (· * _) (congrArg qs (ix3_mid _ (by simp; omega) (by simp; omega)))
  · exact absurd rfl h1

end Cert.Attention

end
-- ==== Proof.Softmax.lean ====
module

public import Idealize.ShloMosaic.PureOps.Ideal.Laws
public import Idealize.ShloMosaic.Lib.IdealHost

@[expose] public section

namespace Cert.Attention

open Idealize.ShloMosaic Finset

/-- A base-2 exponential of a difference of scaled scores is the natural exponential of the difference of the scores
scaled without the factor `1 / log 2`, at the infinities too, for a positive scale. -/
theorem exp2_scaled (x m : EReal) {a : ℝ} (ha : 0 < a) :
    Ideal.exp2 (x * ((a * (Real.log 2)⁻¹ : ℝ) : EReal) - m * ((a * (Real.log 2)⁻¹ : ℝ) : EReal))
      = Ideal.exp (x * (a : EReal) - m * (a : EReal)) := by
  have hl : 0 < Real.log 2 := Real.log_pos (by norm_num)
  have hc : 0 < a * (Real.log 2)⁻¹ := mul_pos ha (inv_pos.mpr hl)
  have hb : ∀ y : ℝ, Real.rpow 2 y = Real.exp (Real.log 2 * y) := fun y => Real.rpow_def_of_pos (by norm_num) y
  have key : ∀ r s : ℝ, Real.log 2 * (r * (a * (Real.log 2)⁻¹) - s * (a * (Real.log 2)⁻¹)) = r * a - s * a := fun r s => by
    field_simp
  induction x with
  | bot => simp only [EReal.bot_mul_coe_of_pos ha, EReal.bot_mul_coe_of_pos hc, EReal.bot_sub]; rfl
  | top =>
    induction m with
    | bot => simp only [EReal.bot_mul_coe_of_pos ha, EReal.bot_mul_coe_of_pos hc, EReal.top_mul_coe_of_pos ha, EReal.top_mul_coe_of_pos hc]; rfl
    | top => simp only [EReal.top_mul_coe_of_pos ha, EReal.top_mul_coe_of_pos hc]; rfl
    | coe s => simp only [EReal.top_mul_coe_of_pos ha, EReal.top_mul_coe_of_pos hc, ← EReal.coe_mul, EReal.top_sub_coe]; rfl
  | coe r =>
    induction m with
    | bot => simp only [EReal.bot_mul_coe_of_pos ha, EReal.bot_mul_coe_of_pos hc, ← EReal.coe_mul, EReal.coe_sub_bot]; rfl
    | top => simp only [EReal.top_mul_coe_of_pos ha, EReal.top_mul_coe_of_pos hc, ← EReal.coe_mul, EReal.sub_top]; rfl
    | coe s =>
      simp only [← EReal.coe_mul, ← EReal.coe_sub, Ideal.exp2_coe, Ideal.exp_coe, hb, key]

/-- The same for any positive scale, infinity among them. -/
theorem exp2_scaled_top (x m : EReal) {a : EReal} (ha : 0 < a) :
    Ideal.exp2 (x * (a * (((Real.log 2)⁻¹ : ℝ) : EReal)) - m * (a * (((Real.log 2)⁻¹ : ℝ) : EReal))) = Ideal.exp (x * a - m * a) := by
  have hl : 0 < (Real.log 2)⁻¹ := inv_pos.mpr (Real.log_pos (by norm_num))
  induction a with
  | bot => exact absurd ha (by simp)
  | coe r =>
    rw [← EReal.coe_mul]
    exact exp2_scaled x m (EReal.coe_pos.mp ha)
  | top =>
    rw [EReal.top_mul_coe_of_pos hl]
    have three : ∀ y : EReal, y * ⊤ = ⊥ ∨ y * ⊤ = 0 ∨ y * ⊤ = ⊤ := fun y => by
      rcases lt_trichotomy y 0 with h | h | h
      · exact Or.inl (EReal.mul_top_of_neg h)
      · exact Or.inr (Or.inl (by rw [h, zero_mul]))
      · exact Or.inr (Or.inr (EReal.mul_top_of_pos h))
    have h0 : Ideal.exp2 0 = Ideal.exp 0 := by
      rw [← EReal.coe_zero, Ideal.exp2_coe, Ideal.exp_coe]
      simp
    have hb : Ideal.exp2 ⊥ = Ideal.exp ⊥ := rfl
    have ht : Ideal.exp2 ⊤ = Ideal.exp ⊤ := rfl
    rcases three x with h | h | h <;> rcases three m with g | g | g <;> rw [h, g] <;> simp [h0, hb, ht]

/-- Scaling by a positive number, or by infinity, commutes with a maximum. -/
theorem sup_mul (n : ℕ) (x : ℕ → EReal) {a : EReal} (ha : 0 < a) :
    (range n).sup (fun k => x k * a) = (range n).sup x * a := by
  have hm : Monotone fun y : EReal => y * a := fun _ _ h => mul_le_mul_of_nonneg_right h ha.le
  exact (Finset.apply_sup_eq_sup_comp_of_linearOrder (fun y : EReal => y * a) hm (EReal.bot_mul_of_pos ha)).symm

/-- A maximum over more scores is the same when the further ones are `-∞`. -/
theorem sup_extend {n N : ℕ} (h : n ≤ N) (x : ℕ → EReal) (hx : ∀ k, n ≤ k → x k = ⊥) :
    (range N).sup x = (range n).sup x := by
  apply le_antisymm
  · refine Finset.sup_le fun k _ => ?_
    by_cases hk : k < n
    · exact Finset.le_sup (Finset.mem_range.mpr hk)
    · rw [hx k (by omega)]; exact bot_le
  · exact Finset.sup_mono (Finset.range_mono h)

/-- A sum over more terms is the same when the further ones are zero. -/
theorem sum_extend {n N : ℕ} (h : n ≤ N) (f : ℕ → EReal) (hf : ∀ k, n ≤ k → f k = 0) :
    ∑ k ∈ range N, f k = ∑ k ∈ range n, f k :=
  (Finset.sum_subset (Finset.range_mono h) fun k _ hk => hf k (by simpa using hk)).symm

/-- A weight `exp (x - m)` with `x ≤ m` is a real number between zero and one. -/
theorem exp_sub_real {x m : EReal} (h : x ≤ m) : ∃ r : ℝ, 0 ≤ r ∧ Ideal.exp (x - m) = (r : EReal) := by
  induction x with
  | bot => exact ⟨0, le_rfl, by rw [EReal.bot_sub]; rfl⟩
  | top => rw [top_le_iff.mp h]; exact ⟨0, le_rfl, rfl⟩
  | coe r =>
    induction m with
    | bot => exact absurd (le_bot_iff.mp h) (EReal.coe_ne_bot r)
    | top => exact ⟨0, le_rfl, by rw [EReal.sub_top]; rfl⟩
    | coe s => exact ⟨Real.exp (r - s), (Real.exp_pos _).le, rfl⟩

/-- A nonnegative real factor distributes over a sum of extended reals. -/
theorem sum_mul_real (s : Finset ℕ) (f : ℕ → EReal) {r : ℝ} (hr : 0 ≤ r) :
    ∑ k ∈ s, f k * (r : EReal) = (∑ k ∈ s, f k) * (r : EReal) := by
  induction s using Finset.induction_on with
  | empty => simp
  | insert k s hk ih =>
    rw [Finset.sum_insert hk, Finset.sum_insert hk, ih,
      EReal.right_distrib_of_nonneg_of_ne_top (EReal.coe_nonneg.mpr hr) (EReal.coe_ne_top r)]

/-- A finite sum of real numbers, as an extended real, is the sum of the extended reals. -/
theorem coe_sum (s : Finset ℕ) (r : ℕ → ℝ) : ((∑ k ∈ s, r k : ℝ) : EReal) = ∑ k ∈ s, (r k : EReal) := by
  induction s using Finset.induction_on with
  | empty => simp
  | insert k s hk ih => rw [Finset.sum_insert hk, Finset.sum_insert hk, EReal.coe_add, ih]

/-- Normalizing the weights before the product with the values, or the product after it, is the same. -/
theorem normalize (n : ℕ) (e v : ℕ → EReal) (he : ∀ k ∈ range n, ∃ r : ℝ, 0 ≤ r ∧ e k = (r : EReal)) :
    ∑ k ∈ range n, v k * (e k * Ideal.div 1 (∑ j ∈ range n, e j))
      = (∑ k ∈ range n, v k * e k) * Ideal.div 1 (∑ j ∈ range n, e j) := by
  choose! r hr0 hr using he
  have hs : ∑ j ∈ range n, e j = ((∑ j ∈ range n, r j : ℝ) : EReal) := by
    rw [Finset.sum_congr rfl hr, coe_sum]
  by_cases h0 : ∑ j ∈ range n, r j = 0
  · have hz : ∀ k ∈ range n, e k = 0 := fun k hk => by
      rw [hr k hk, (Finset.sum_eq_zero_iff_of_nonneg hr0).mp h0 k hk]; rfl
    have e1 : ∑ k ∈ range n, v k * (e k * Ideal.div 1 (∑ j ∈ range n, e j)) = 0 :=
      Finset.sum_eq_zero fun k hk => by rw [hz k hk, zero_mul, mul_zero]
    have e2 : ∑ k ∈ range n, v k * e k = 0 := Finset.sum_eq_zero fun k hk => by rw [hz k hk, mul_zero]
    rw [e1, e2, zero_mul]
  · have hp : (0 : ℝ) ≤ 1 / ∑ j ∈ range n, r j := div_nonneg zero_le_one (Finset.sum_nonneg hr0)
    rw [hs, Ideal.div_coe h0, one_mul, ← sum_mul_real _ _ hp]
    exact Finset.sum_congr rfl fun k _ => (mul_assoc _ _ _).symm

/-- The softmax-weighted sum of the values in the kernel's form — over the first `n` keys, base-2 exponentials of scores
scaled by `a / log 2`, one division after the product — is the plain one over all `N` keys with the natural exponential
and the weights normalized first, when the keys from `n` on are masked out by `-∞` and the scale `a` is positive. -/
theorem softmax_forms {n N : ℕ} (h : n ≤ N) (x v : ℕ → EReal) {a : EReal} (ha : 0 < a) (hx : ∀ k, n ≤ k → x k = ⊥) :
    (∑ k ∈ range n, v k * Ideal.exp2 (x k * (a * (((Real.log 2)⁻¹ : ℝ) : EReal))
          - (range n).sup x * (a * (((Real.log 2)⁻¹ : ℝ) : EReal))))
        * Ideal.div 1 (∑ k ∈ range n, Ideal.exp2 (x k * (a * (((Real.log 2)⁻¹ : ℝ) : EReal))
          - (range n).sup x * (a * (((Real.log 2)⁻¹ : ℝ) : EReal))))
      = ∑ k ∈ range N, v k * (Ideal.exp (x k * a - (range N).sup fun j => x j * a)
          * Ideal.div 1 (∑ i ∈ range N, Ideal.exp (x i * a - (range N).sup fun j => x j * a))) := by
  have hxa : ∀ k, n ≤ k → x k * a = ⊥ := fun k hk => by rw [hx k hk, EReal.bot_mul_of_pos ha]
  have hz : ∀ m : EReal, ∀ k, n ≤ k → Ideal.exp (x k * a - m) = 0 := fun m k hk => by
    rw [hxa k hk, EReal.bot_sub]; rfl
  simp only [exp2_scaled_top _ _ ha, ← sup_mul n x ha]
  rw [sup_extend h (fun j => x j * a) hxa,
    sum_extend h (fun i => Ideal.exp (x i * a - (range n).sup fun j => x j * a)) (hz _),
    sum_extend h (fun k => v k * (Ideal.exp (x k * a - (range n).sup fun j => x j * a) * _))
      (fun k hk => by rw [hz _ k hk, zero_mul, mul_zero])]
  exact (normalize n _ v fun k hk => exp_sub_real
    (Finset.le_sup (f := fun j => x j * a) hk)).symm

end Cert.Attention
-- ==== Proof.Reads.lean ====
module

public import proofs.«01_k».proof.Proof.Tile
public import proofs.«01_k».proof.Proof.Softmax
public import Idealize.ShloMosaic.Lib.Pipeline.FrameBody
public import Idealize.ShloMosaic.Lib.Pipeline.ReadBack

@[expose] public section

noncomputable section

namespace Cert.Attention

open Idealize.ShloMosaic Cert.KernelIdeal Finset

/-- A write into another buffer of a ring leaves what this buffer holds. -/
theorem canon_skip {e : EltTy} {a0 a1 a2 b' o' n1 n2 : ℕ} {inb}
    (w : (Rect.unit (s := ⟨3, ![a0, a1, a2]⟩) ![b', o', 0] ![1, n1, n2] inb).shape.Idx → Elt Ideal e)
    (L : List (View.Piece (Elt Ideal) ⟨3, ![a0, a1, a2]⟩ e)) (y : (⟨3, ![a0, a1, a2]⟩ : Shape).Idx) (h : (y 0).val ≠ b') :
    View.canon (⟨Rect.unit ![b', o', 0] ![1, n1, n2] inb, w⟩ :: L) y = View.canon L y :=
  View.canon_cons_of_not_mem _ _ (by
    rw [Rect.mem_set_unit]
    intro h'
    have := h' 0
    simp at this
    omega)

/-- A write past the rows asked for leaves what is there. -/
theorem canon_past {e : EltTy} {a0 a1 a2 b' o' n1 n2 : ℕ} {inb}
    (w : (Rect.unit (s := ⟨3, ![a0, a1, a2]⟩) ![b', o', 0] ![1, n1, n2] inb).shape.Idx → Elt Ideal e)
    (L : List (View.Piece (Elt Ideal) ⟨3, ![a0, a1, a2]⟩ e)) (y : (⟨3, ![a0, a1, a2]⟩ : Shape).Idx) (h : o' + n1 ≤ (y 1).val) :
    View.canon (⟨Rect.unit ![b', o', 0] ![1, n1, n2] inb, w⟩ :: L) y = View.canon L y :=
  View.canon_cons_of_not_mem _ _ (by
    rw [Rect.mem_set_unit]
    intro h'
    have := h' 1
    simp at this
    omega)

/-- The last write read back inside its rectangle. -/
theorem canon_hit {e : EltTy} {S : Shape} {off size : Fin S.rank → ℕ} {inb}
    (w : (Rect.unit (s := S) off size inb).shape.Idx → Elt Ideal e)
    (L : List (View.Piece (Elt Ideal) S e)) (x : (Rect.unit (s := S) off size inb).shape.Idx) (y : S.Idx)
    (h : ∀ a, (y a).val = off a + (x a).val) :
    View.canon (⟨Rect.unit off size inb, w⟩ :: L) y = w x := by
  have e : y = (Rect.unit off size inb).emb x := by
    funext a
    apply Fin.ext
    rw [h a]
    show _ = off a + 1 * (x a).val
    rw [Nat.one_mul]
  rw [e, View.canon_cons_emb]

theorem read_at {e : EltTy} {S : Shape} {sp : Space} (arg : Memref sig .tc sp S e) (harg : arg.IsWhole) (x : S.Idx → Elt Ideal e)
    {off size : Fin S.rank → ℕ} {inb} (j : (Rect.unit (s := S) off size inb).shape.Idx) (y : S.Idx) (h : ∀ a, (y a).val = off a + (j a).val) :
    View.readAt (Elt Ideal) arg.view (Rect.unit off size inb).toLoadRect (harg.unread x) j = x y := by
  rw [View.readAt_eq_ld, Memref.IsWhole.read_unread]
  show x _ = x y
  congr 1
  funext a
  apply Fin.ext
  rw [h a]
  show off a + 1 * (j a).val = _
  rw [Nat.one_mul]

theorem tail_eq {α : Type} {n m : ℕ} (x : (⟨2, ![n, m]⟩ : Shape).Idx → α) (h) (k : Fin n) (l : Fin m) :
    shapeCast ⟨3, ![1, n, m]⟩ x h (ix3 0 k l) = x (ix2 k l) := by
  refine shapeCast_apply _ _ _ _ ?_
  simp [Shape.rowMajor_val_three, Shape.rowMajor_val_two]

theorem slice_eq {α : Type} {n m o k : ℕ} (x : (⟨2, ![n, m]⟩ : Shape).Idx → α) (h) (h0 : o + k ≤ n) (i : Fin k) (l : Fin m) :
    extractStridedSlice ⟨2, ![k, m]⟩ ![o, 0] x h (ix2 i l) = x (ix2 ⟨o + i, by omega⟩ l) := by
  pointwise
  refine congrArg x (funext fun a => ?_)
  fin_cases a
  · rfl
  · exact Fin.ext (Nat.zero_add _)

/-- Masked scores of the first `o + 32` keys, of which the last 32 are the tile's own. -/
def masked (o : ℕ) {n : ℕ} (S : FVec Ideal ⟨2, ![n, 256]⟩ .f32) (k : Fin n) (l : Fin 256) : EReal :=
  if k.val ≤ o + l.val % 128 / 4 then S (ix2 k l) else ⊥

theorem read_scores {n o b : ℕ} (hn : o + 32 = n) (arg8 : Memref sig .tc .vmem S3x1280x256 .f32) (S : FVec Ideal ⟨2, ![n, 256]⟩ .f32)
    {i1 i2 i3 h1 h2 h3 h4} (L T : List (View.Piece (Elt Ideal) S3x1280x256 .f32))
    (hL : ∀ y : S3x1280x256.Idx, (y 0).val = b → View.canon L y = View.canon
      (⟨Rect.unit (s := S3x1280x256) ![b, 0, 0] (⟨3, ![1, o, 256]⟩ : Shape).size i1, shapeCast ⟨3, ![1, o, 256]⟩ (extractStridedSlice ⟨2, ![o, 256]⟩ ![0, 0] S h1) h2⟩ ::
       ⟨Rect.unit ![b, o, 0] S1x32x256.size i2, shapeCast S1x32x256 (strip Gen.kernelRun0_A.sl.v28 (extractStridedSlice S32x256 ![o, 0] S h3)) h4⟩ :: T) y)
    (k : Fin n) (l : Fin 256) :
    arg8.view.readCov (Val := Elt Ideal) L (Rect.unit (s := S3x1280x256) ![b, 0, 0] (⟨3, ![1, n, 256]⟩ : Shape).size i3).toLoadRect (ix3 0 k l) = masked o S k l := by
  rw [View.readCov_eq_canon']
  show View.canon L _ = _
  rw [hL _ (by show b + 1 * 0 = b; omega)]
  unfold masked
  by_cases hk : k.val < o
  · rw [canon_hit _ _ (ix3 0 ⟨k, hk⟩ l) _ (by intro a; fin_cases a <;> simp [LoadRect.idx, Rect.toLoadRect]), tail_eq, slice_eq _ _ (by omega),
      if_pos (by omega)]
    exact congrArg S (congrArg (ix2 · l) (Fin.ext (by simp)))
  · rw [canon_past _ _ _ (by show 0 + o ≤ 0 + 1 * k.val; omega),
      canon_hit _ _ (ix3 0 ⟨k - o, by omega⟩ l) _ (by intro a; fin_cases a <;> simp [LoadRect.idx, Rect.toLoadRect]; omega), tail_eq, strip_apply,
      mask_apply, slice_eq _ _ (by omega)]
    by_cases hm : k.val ≤ o + l.val % 128 / 4
    · rw [if_pos (by rw [if_pos (by show k.val - o ≤ _; omega)]), if_pos hm]
      exact congrArg S (congrArg (ix2 · l) (Fin.ext (by simp; omega)))
    · rw [if_neg (by rw [if_neg (by show ¬ k.val - o ≤ _; omega)]; decide), if_neg hm]

theorem max_scores {n o : ℕ} (hn : o + 32 = n) (S : FVec Ideal ⟨2, ![n, 256]⟩ .f32) {h1 h3} (l : Fin 256) :
    maximumf (colMax 32 (strip Gen.kernelRun0_A.sl.v28 (extractStridedSlice S32x256 ![o, 0] S h3)))
        (colMax o (extractStridedSlice ⟨2, ![o, 256]⟩ ![0, 0] S h1)) (ix2 0 l)
      = Finset.univ.sup fun k : Fin n => masked o S k l := by
  show colMax 32 _ (ix2 0 l) ⊔ colMax o _ (ix2 0 l) = _
  rw [colMax_apply, colMax_apply]
  simp only [strip_apply, mask_apply, slice_eq _ _ (show o + 32 ≤ n by omega), slice_eq _ _ (show 0 + o ≤ n by omega)]
  apply le_antisymm
  · refine sup_le (Finset.sup_le fun k _ => ?_) (Finset.sup_le fun k _ => ?_)
    · refine le_trans (le_of_eq ?_) (Finset.le_sup (Finset.mem_univ (⟨o + k, by omega⟩ : Fin n)))
      unfold masked
      by_cases hm : k.val ≤ l.val % 128 / 4
      · rw [if_pos (by rw [if_pos hm]), if_pos (by show o + k.val ≤ _; omega)]
      · rw [if_neg (by rw [if_neg hm]; decide), if_neg (by show ¬ o + k.val ≤ _; omega)]
    · refine le_trans (le_of_eq ?_) (Finset.le_sup (Finset.mem_univ (⟨k, by omega⟩ : Fin n)))
      unfold masked
      rw [if_pos (by show k.val ≤ _; omega)]
      exact congrArg S (congrArg (ix2 · l) (Fin.ext (by simp)))
  · refine Finset.sup_le fun k _ => ?_
    unfold masked
    by_cases hk : k.val < o
    · refine le_sup_of_le_right (le_trans (le_of_eq ?_) (Finset.le_sup (Finset.mem_univ (⟨k, hk⟩ : Fin o))))
      rw [if_pos (by omega)]
      exact congrArg S (congrArg (ix2 · l) (Fin.ext (by simp)))
    · refine le_sup_of_le_left (le_trans (le_of_eq ?_) (Finset.le_sup (Finset.mem_univ (⟨k - o, by omega⟩ : Fin 32))))
      by_cases hm : k.val ≤ o + l.val % 128 / 4
      · rw [if_pos hm, if_pos (by rw [if_pos (by show k.val - o ≤ _; omega)])]
        exact congrArg S (congrArg (ix2 · l) (Fin.ext (by simp; omega)))
      · rw [if_neg hm, if_neg (by rw [if_neg (by show ¬ k.val - o ≤ _; omega)]; decide)]

theorem read_weights {n b : ℕ} (arg9 : Memref sig .tc .vmem S2x1280x256 .bf16) (P : FVec Ideal ⟨2, ![n, 256]⟩ .bf16)
    {i1 i3 h2} (L T : List (View.Piece (Elt Ideal) S2x1280x256 .bf16))
    (hL : ∀ y : S2x1280x256.Idx, (y 0).val = b → View.canon L y = View.canon
      (⟨Rect.unit (s := S2x1280x256) ![b, 0, 0] (⟨3, ![1, n, 256]⟩ : Shape).size i1, shapeCast ⟨3, ![1, n, 256]⟩ P h2⟩ :: T) y)
    (k : Fin n) (l : Fin 256) :
    arg9.view.readCov (Val := Elt Ideal) L (Rect.unit (s := S2x1280x256) ![b, 0, 0] (⟨3, ![1, n, 256]⟩ : Shape).size i3).toLoadRect (ix3 0 k l) = P (ix2 k l) := by
  rw [View.readCov_eq_canon']
  show View.canon L _ = _
  rw [hL _ (by show b + 1 * 0 = b; omega),
    canon_hit _ _ (ix3 0 k l) _ (by intro a; fin_cases a <;> simp [LoadRect.idx, Rect.toLoadRect]), tail_eq]

end Cert.Attention

end
-- ==== Proof.Block.lean ====
module

public import proofs.«01_k».proof.Proof.Reads

@[expose] public section

noncomputable section

namespace Cert.Attention

open Idealize.ShloMosaic Cert.KernelIdeal Finset

/-- The head, of the block's sixteen, that point `i` of the grid treats as its `g`-th. -/
def headOf (i : grid0.Coords) (g : Fin 8) : Fin 16 := ⟨8 * (i 1).val + g.val, by have : (i 1).val < 2 := (i 1).isLt; omega⟩

/-- The score of key `k` for head `hd` of token `row`, before the query's scale; the keys after the token score minus infinity. -/
def logit (x0 : Vec Ideal S1x1280x16x128 .fp8e4m3) (x2 : Vec Ideal S1x1x1280x128 .fp8e4m3) (x3 : Vec Ideal S1x1x1280x128 .f32)
    (row : Fin 1280) (hd : Fin 16) (k : ℕ) : EReal :=
  if h : k ≤ row.val then
    (∑ d : Fin 128, x2 (ix4 0 0 ⟨k, by omega⟩ d) * x0 (ix4 0 row hd d)) * x3 (ix4 0 0 ⟨k, by omega⟩ ⟨4 * (row.val % 32) + hd.val % 4, by omega⟩)
  else ⊥

/-- Entry `d` of the value of key `k`. -/
def value (x4 : Vec Ideal S1x1x128x1280 .bf16) (d : Fin 128) (k : ℕ) : EReal :=
  if h : k < 1280 then x4 (ix4 0 0 d ⟨k, h⟩) else 0

/-- The softmax average of `v` over the 1280 keys with scores `x` scaled by `a`. -/
def average (x v : ℕ → EReal) (a : EReal) : EReal :=
  ∑ k ∈ range 1280, v k * (Ideal.exp (x k * a - (range 1280).sup fun j => x j * a)
    * Ideal.div 1 (∑ i ∈ range 1280, Ideal.exp (x i * a - (range 1280).sup fun j => x j * a)))

/-- Entry `d` of the attention of head `hd` of token `row`. -/
def attend (x0 : Vec Ideal S1x1280x16x128 .fp8e4m3) (x1 : Vec Ideal S1x16x1280 .f32) (x2 : Vec Ideal S1x1x1280x128 .fp8e4m3)
    (x3 : Vec Ideal S1x1x1280x128 .f32) (x4 : Vec Ideal S1x1x128x1280 .bf16) (row : Fin 1280) (hd : Fin 16) (d : Fin 128) : EReal :=
  average (logit x0 x2 x3 row hd) (value x4 d) (x1 (ix3 0 hd row) * (((Real.sqrt 128)⁻¹ : ℝ) : EReal))

/-- Where a tile that starts at token `o` reads its queries, from head `k` of the point's eight. -/
def queryOff (o : ℕ) (i : grid0.Coords) (k : BitVec 32) : Fin 4 → ℕ :=
  ![0, o, (Scalar.indexCast (Scalar.addi (Scalar.muli (BitVec.ofNat 32 (i 1).val) 8#32) k) : BitVec 32).toNat, 0]
/-- Where it reads its query scales. -/
def scaleOff (o : ℕ) (i : grid0.Coords) : Fin 3 → ℕ :=
  ![0, (Scalar.indexCast (Scalar.muli (BitVec.ofNat 32 (i 1).val) 8#32) : BitVec 32).toNat, o]

theorem queryOff_zero (o : ℕ) (i : grid0.Coords) : queryOff o i 0#32 = ![0, o, 8 * (i 1).val, 0] := by
  unfold queryOff
  have : (i 1).val < 2 := (i 1).isLt
  generalize (i 1).val = a at *
  interval_cases a <;> rfl
theorem queryOff_four (o : ℕ) (i : grid0.Coords) : queryOff o i 4#32 = ![0, o, 8 * (i 1).val + 4, 0] := by
  unfold queryOff
  have : (i 1).val < 2 := (i 1).isLt
  generalize (i 1).val = a at *
  interval_cases a <;> rfl
theorem scaleOff_eq (o : ℕ) (i : grid0.Coords) : scaleOff o i = ![0, 8 * (i 1).val, o] := by
  unfold scaleOff
  have : (i 1).val < 2 := (i 1).isLt
  generalize (i 1).val = a at *
  interval_cases a <;> rfl

section
variable {i : grid0.Coords} {arg2 : Memref sig .tc .vmem S1x1280x16x128 .fp8e4m3} {harg2 : arg2.IsWhole}
  {arg3 : Memref sig .tc .vmem S1x16x1280 .f32} {harg3 : arg3.IsWhole} {arg4 : Memref sig .tc .vmem S1x1x1280x128 .fp8e4m3} {harg4 : arg4.IsWhole}
  {arg5 : Memref sig .tc .vmem S1x1x1280x128 .f32} {harg5 : arg5.IsWhole} {arg6 : Memref sig .tc .vmem S1x1x128x1280 .bf16} {harg6 : arg6.IsWhole}
  {arg8 : Memref sig .tc .vmem S3x1280x256 .f32} {arg9 : Memref sig .tc .vmem S2x1280x256 .bf16} {arg10 : Memref sig .tc .vmem S2x128x128 .f32}
  {x0 : Vec Ideal S1x1280x16x128 .fp8e4m3} {x1 : Vec Ideal S1x16x1280 .f32} {x2 : Vec Ideal S1x1x1280x128 .fp8e4m3}
  {x3 : Vec Ideal S1x1x1280x128 .f32} {x4 : Vec Ideal S1x1x128x1280 .bf16}

/-- The queries a tile reads. -/
def queryRead (arg2 : Memref sig .tc .vmem S1x1280x16x128 .fp8e4m3) (harg2 : arg2.IsWhole) (x0 : Vec Ideal S1x1280x16x128 .fp8e4m3)
    (o : ℕ) (i : grid0.Coords) (k : BitVec 32)
    (inb : ∀ a, queryOff o i k a + S1x32x4x128.size a ≤ S1x1280x16x128.size a) : FVec Ideal S1x32x4x128 .fp8e4m3 :=
  View.readAt (Elt Ideal) arg2.view (Rect.unit (s := S1x1280x16x128) (queryOff o i k) S1x32x4x128.size inb).toLoadRect (harg2.unread x0)
/-- The query scales it reads. -/
def scaleRead (arg3 : Memref sig .tc .vmem S1x16x1280 .f32) (harg3 : arg3.IsWhole) (x1 : Vec Ideal S1x16x1280 .f32)
    (o : ℕ) (i : grid0.Coords) (inb : ∀ a, scaleOff o i a + S1x8x32.size a ≤ S1x16x1280.size a) : FVec Ideal S1x8x32 .f32 :=
  View.readAt (Elt Ideal) arg3.view (Rect.unit (s := S1x16x1280) (scaleOff o i) S1x8x32.size inb).toLoadRect (harg3.unread x1)
/-- The first `n` keys, or the scales spread beside them. -/
def keyRead {e : EltTy} (arg : Memref sig .tc .vmem S1x1x1280x128 e) (harg : arg.IsWhole) (x : Vec Ideal S1x1x1280x128 e) (n : ℕ)
    (inb : ∀ a, (![0, 0, 0, 0] : Fin 4 → ℕ) a + (⟨4, ![1, 1, n, 128]⟩ : Shape).size a ≤ S1x1x1280x128.size a) :
    Vec Ideal ⟨4, ![1, 1, n, 128]⟩ e :=
  View.readAt (Elt Ideal) arg.view (Rect.unit (s := S1x1x1280x128) ![0, 0, 0, 0] (⟨4, ![1, 1, n, 128]⟩ : Shape).size inb).toLoadRect (harg.unread x)
/-- The values of the first `n` keys. -/
def valueRead (arg6 : Memref sig .tc .vmem S1x1x128x1280 .bf16) (harg6 : arg6.IsWhole) (x4 : Vec Ideal S1x1x128x1280 .bf16) (n : ℕ)
    (inb : ∀ a, (![0, 0, 0, 0] : Fin 4 → ℕ) a + (⟨4, ![1, 1, 128, n]⟩ : Shape).size a ≤ S1x1x128x1280.size a) :
    FVec Ideal ⟨4, ![1, 1, 128, n]⟩ .bf16 :=
  View.readAt (Elt Ideal) arg6.view (Rect.unit (s := S1x1x128x1280) ![0, 0, 0, 0] (⟨4, ![1, 1, 128, n]⟩ : Shape).size inb).toLoadRect (harg6.unread x4)

theorem keyRead_apply {e : EltTy} (arg : Memref sig .tc .vmem S1x1x1280x128 e) (harg : arg.IsWhole) (x : Vec Ideal S1x1x1280x128 e) {n : ℕ} {inb}
    (h : n ≤ 1280) (k : Fin n) (d : Fin 128) : keyRead arg harg x n inb (ix4 0 0 k d) = x (ix4 0 0 ⟨k, by omega⟩ d) :=
  read_at _ _ _ _ _ (by intro a; fin_cases a <;> simp)

theorem valueRead_apply {n : ℕ} {inb} (h : n ≤ 1280) (k : Fin n) (d : Fin 128) :
    valueRead arg6 harg6 x4 n inb (ix4 0 0 d k) = x4 (ix4 0 0 d ⟨k, by omega⟩) :=
  read_at _ _ _ _ _ (by intro a; fin_cases a <;> simp)

theorem scaleRead_apply {o : ℕ} {inb} (ho : o + 32 ≤ 1280) (g : Fin 8) (t : Fin 32) :
    scaleRead arg3 harg3 x1 o i inb (ix3 0 g t) = x1 (ix3 0 (headOf i g) ⟨o + t, by omega⟩) :=
  read_at _ _ _ _ _ (by intro a; refine Eq.trans ?_ (congrArg (· + _) (congrFun (scaleOff_eq o i) a)).symm; fin_cases a <;> simp [headOf])

theorem queryRead_zero {o : ℕ} {inb} (ho : o + 32 ≤ 1280) (g : Fin 4) (t : Fin 32) (d : Fin 128) :
    queryRead arg2 harg2 x0 o i 0#32 inb (ix4 0 t g d) = x0 (ix4 0 ⟨o + t, by omega⟩ (headOf i ⟨g, by omega⟩) d) :=
  read_at _ _ _ _ _ (by intro a; refine Eq.trans ?_ (congrArg (· + _) (congrFun (queryOff_zero o i) a)).symm; fin_cases a <;> simp [headOf])
theorem queryRead_four {o : ℕ} {inb} (ho : o + 32 ≤ 1280) (g : Fin 4) (t : Fin 32) (d : Fin 128) :
    queryRead arg2 harg2 x0 o i 4#32 inb (ix4 0 t g d) = x0 (ix4 0 ⟨o + t, by omega⟩ (headOf i ⟨4 + g, by omega⟩) d) :=
  read_at _ _ _ _ _ (by intro a; refine Eq.trans ?_ (congrArg (· + _) (congrFun (queryOff_four o i) a)).symm; fin_cases a <;> simp [headOf]; omega)

/-- The score the tile computes for key `k` and lane `l` is the score of the lane's token and head. -/
theorem masked_logit {o n : ℕ} (hn : o + 32 = n) (h : n ≤ 1280) (h32 : o % 32 = 0) {i1 i2 i3 i4} (k : Fin n) (l : Fin 256) :
    masked o (scores n (keyRead arg4 harg4 x2 n i1) (queryRead arg2 harg2 x0 o i 0#32 i2) (queryRead arg2 harg2 x0 o i 4#32 i3) (keyRead arg5 harg5 x3 n i4)) k l
      = logit x0 x2 x3 ⟨o + l % 128 / 4, by omega⟩ (headOf i ⟨4 * (l / 128) + l % 4, by omega⟩) k := by
  unfold masked logit
  by_cases hk : k.val ≤ o + l.val % 128 / 4
  · rw [if_pos hk, dif_pos hk, scores_apply, keyRead_apply _ _ _ h]
    refine congrArg₂ (· * ·) (Finset.sum_congr rfl fun d _ => ?_) ?_
    · rw [keyRead_apply _ _ _ h, queries_apply]
      refine congrArg (_ * ·) ?_
      split_ifs with hl
      · rw [queryRead_zero (by omega)]
        exact congrArg x0 (ix4_mid _ rfl (by simp [headOf]; omega) _)
      · rw [queryRead_four (by omega)]
        exact congrArg x0 (ix4_mid _ rfl (by simp [headOf]; omega) _)
    · exact congrArg x3 (congrArg (ix4 0 0 _) (Fin.ext (by simp [headOf]; omega)))
  · rw [if_neg hk, dif_neg hk]

/-- What a tile's outputs hold, from what its reads of the scratch buffers hold. -/
theorem core {o n : ℕ} (hn : o + 32 = n) (h : n ≤ 1280) (h32 : o % 32 = 0) (hs : ∀ j, 0 < x1 j) {i1 i2 i3 i4 i5 i6}
    (x : FVec Ideal ⟨3, ![1, n, 256]⟩ .f32) (p : FVec Ideal ⟨3, ![1, n, 256]⟩ .bf16) (m : FVec Ideal S1x256 .f32)
    (S : FVec Ideal ⟨2, ![n, 256]⟩ .f32)
    (hS : S = scores n (keyRead arg4 harg4 x2 n i1) (queryRead arg2 harg2 x0 o i 0#32 i2) (queryRead arg2 harg2 x0 o i 4#32 i3) (keyRead arg5 harg5 x3 n i4))
    (hx : ∀ k l, x (ix3 0 k l) = masked o S k l) (hm : ∀ l, m (ix2 0 l) = Finset.univ.sup fun k : Fin n => masked o S k l)
    (hp : ∀ k l, p (ix3 0 k l) = weights n x m (laneScale Gen.kernelRun0_A.sl.v58 (Gen.k0_pay10 Gen.kernelRun0_A.sl.v75 Gen.kernelRun0_A.sl.v91)
      (scaleRead arg3 harg3 x1 o i i5)) (ix2 k l)) (d : Fin 128) (l : Fin 256) :
    combine n (valueRead arg6 harg6 x4 n i6) p (reciprocal n (weights n x m (laneScale Gen.kernelRun0_A.sl.v58
      (Gen.k0_pay10 Gen.kernelRun0_A.sl.v75 Gen.kernelRun0_A.sl.v91) (scaleRead arg3 harg3 x1 o i i5)))) (ix2 d l)
      = attend x0 x1 x2 x3 x4 ⟨o + l % 128 / 4, by omega⟩ (headOf i ⟨4 * (l / 128) + l % 4, by omega⟩) d := by
  subst hS
  set row : Fin 1280 := ⟨o + l % 128 / 4, by omega⟩ with hrow
  set hd := headOf i ⟨4 * (l / 128) + l % 4, by omega⟩ with hhd
  have ha : 0 < x1 (ix3 0 hd row) * (((Real.sqrt 128)⁻¹ : ℝ) : EReal) := EReal.mul_pos (hs _) (EReal.coe_pos.mpr (by positivity))
  have hc : laneScale Gen.kernelRun0_A.sl.v58 (Gen.k0_pay10 Gen.kernelRun0_A.sl.v75 Gen.kernelRun0_A.sl.v91) (scaleRead arg3 harg3 x1 o i i5) (ix2 0 l)
      = x1 (ix3 0 hd row) * (((Real.sqrt 128)⁻¹ : ℝ) : EReal) * (((Real.log 2)⁻¹ : ℝ) : EReal) := by
    rw [laneScale_apply, scaleRead_apply (by omega)]
    show x1 (ix3 0 hd row) * _ = _
    rw [EReal.coe_mul, ← mul_assoc]
  have hsup : (Finset.univ.sup fun k : Fin n => logit x0 x2 x3 row hd k) = (range n).sup (logit x0 x2 x3 row hd) := by
    apply le_antisymm
    · exact Finset.sup_le fun k _ => Finset.le_sup (f := logit x0 x2 x3 row hd) (Finset.mem_range.2 k.isLt)
    · exact Finset.sup_le fun k hk => Finset.le_sup (f := fun k : Fin n => logit x0 x2 x3 row hd k) (Finset.mem_univ ⟨k, Finset.mem_range.1 hk⟩)
  rw [combine_apply, reciprocal_apply]
  simp only [hp, weights_apply, hx, hm, masked_logit hn h h32, valueRead_apply h, hc]
  rw [← hrow, ← hhd, hsup]
  have hv : ∀ k : Fin n, x4 (ix4 0 0 d ⟨k, by omega⟩) = value x4 d k := fun k => by rw [value, dif_pos (by omega)]
  simp only [hv]
  have key := softmax_forms h (logit x0 x2 x3 row hd) (value x4 d) ha
    (fun k hk => by rw [logit, dif_neg (by simp only [hrow]; omega)])
  rw [Finset.sum_range, Finset.sum_range] at key
  rw [key, attend]
  rfl

end

end Cert.Attention

end
-- ==== Proof.Tiles.lean ====
module

public import proofs.«01_k».proof.Proof.Block

@[expose] public section

noncomputable section

namespace Cert.Attention

open Idealize.ShloMosaic Cert.KernelIdeal Finset

theorem own_slices {o n : ℕ} (hn : o + 32 = n) : 0 + o ≤ n := by omega

/-- Reading a buffer of a ring past the last write, which went to another buffer. -/
theorem skip1 {e : EltTy} {a0 a1 a2 b b' o' n1 n2 : ℕ} {inb}
    {w : (Rect.unit (s := ⟨3, ![a0, a1, a2]⟩) ![b', o', 0] ![1, n1, n2] inb).shape.Idx → Elt Ideal e}
    {L M : List (View.Piece (Elt Ideal) ⟨3, ![a0, a1, a2]⟩ e)} (h : b' ≠ b)
    (hL : ∀ y : (⟨3, ![a0, a1, a2]⟩ : Shape).Idx, (y 0).val = b → View.canon L y = View.canon M y)
    (y : (⟨3, ![a0, a1, a2]⟩ : Shape).Idx) (hy : (y 0).val = b) :
    View.canon (⟨Rect.unit ![b', o', 0] ![1, n1, n2] inb, w⟩ :: L) y = View.canon M y :=
  (canon_skip w L y (by omega)).trans (hL y hy)

section
variable {i : grid0.Coords} {arg2 : Memref sig .tc .vmem S1x1280x16x128 .fp8e4m3} {harg2 : arg2.IsWhole}
  {arg3 : Memref sig .tc .vmem S1x16x1280 .f32} {harg3 : arg3.IsWhole} {arg4 : Memref sig .tc .vmem S1x1x1280x128 .fp8e4m3} {harg4 : arg4.IsWhole}
  {arg5 : Memref sig .tc .vmem S1x1x1280x128 .f32} {harg5 : arg5.IsWhole} {arg6 : Memref sig .tc .vmem S1x1x128x1280 .bf16} {harg6 : arg6.IsWhole}
  {arg8 : Memref sig .tc .vmem S3x1280x256 .f32} {arg9 : Memref sig .tc .vmem S2x1280x256 .bf16} {arg10 : Memref sig .tc .vmem S2x128x128 .f32}
  {x0 : Vec Ideal S1x1280x16x128 .fp8e4m3} {x1 : Vec Ideal S1x16x1280 .f32} {x2 : Vec Ideal S1x1x1280x128 .fp8e4m3}
  {x3 : Vec Ideal S1x1x1280x128 .f32} {x4 : Vec Ideal S1x1x128x1280 .bf16}

/-- The tile of tokens `o` to `o + 31`, `o > 0`, computes the attention of its tokens: its scores are read back from one buffer of a
    ring of three, its weights from one of a ring of two. -/
theorem tile {o n b8 b9 : ℕ} (hn : o + 32 = n) (h : n ≤ 1280) (h32 : o % 32 = 0) (hs : ∀ j, 0 < x1 j)
    {i1 i2 i3 i4 i5 i6 i7 i8 i9 i10 i11 h2 h4 h5 h6}
    {L8 T8 : List (View.Piece (Elt Ideal) S3x1280x256 .f32)} {L9 T9 : List (View.Piece (Elt Ideal) S2x1280x256 .bf16)}
    (hL8 : ∀ y : S3x1280x256.Idx, (y 0).val = b8 → View.canon L8 y = View.canon
      (⟨Rect.unit (s := S3x1280x256) ![b8, 0, 0] (⟨3, ![1, o, 256]⟩ : Shape).size i7, shapeCast ⟨3, ![1, o, 256]⟩ (extractStridedSlice ⟨2, ![o, 256]⟩ ![0, 0]
          (scores n (keyRead arg4 harg4 x2 n i1) (queryRead arg2 harg2 x0 o i 0#32 i2) (queryRead arg2 harg2 x0 o i 4#32 i3) (keyRead arg5 harg5 x3 n i4)) (rows_slices (own_slices hn))) h2⟩ ::
       ⟨Rect.unit ![b8, o, 0] S1x32x256.size i8, shapeCast S1x32x256 (strip Gen.kernelRun0_A.sl.v28 (extractStridedSlice S32x256 ![o, 0]
          (scores n (keyRead arg4 harg4 x2 n i1) (queryRead arg2 harg2 x0 o i 0#32 i2) (queryRead arg2 harg2 x0 o i 4#32 i3) (keyRead arg5 harg5 x3 n i4)) (rows_slices (le_of_eq hn)))) h4⟩ :: T8) y)
    (hL9 : ∀ y : S2x1280x256.Idx, (y 0).val = b9 → View.canon L9 y = View.canon
      (⟨Rect.unit (s := S2x1280x256) ![b9, 0, 0] (⟨3, ![1, n, 256]⟩ : Shape).size i9, shapeCast ⟨3, ![1, n, 256]⟩ (truncf .bf16 (weights n
        (arg8.view.readCov (Val := Elt Ideal) L8 (Rect.unit (s := S3x1280x256) ![b8, 0, 0] (⟨3, ![1, n, 256]⟩ : Shape).size i10).toLoadRect)
        (maximumf (colMax 32 (strip Gen.kernelRun0_A.sl.v28 (extractStridedSlice S32x256 ![o, 0]
            (scores n (keyRead arg4 harg4 x2 n i1) (queryRead arg2 harg2 x0 o i 0#32 i2) (queryRead arg2 harg2 x0 o i 4#32 i3) (keyRead arg5 harg5 x3 n i4)) (rows_slices (le_of_eq hn)))))
          (colMax o (extractStridedSlice ⟨2, ![o, 256]⟩ ![0, 0]
            (scores n (keyRead arg4 harg4 x2 n i1) (queryRead arg2 harg2 x0 o i 0#32 i2) (queryRead arg2 harg2 x0 o i 4#32 i3) (keyRead arg5 harg5 x3 n i4)) (rows_slices (own_slices hn)))))
        (laneScale Gen.kernelRun0_A.sl.v58 (Gen.k0_pay10 Gen.kernelRun0_A.sl.v75 Gen.kernelRun0_A.sl.v91) (scaleRead arg3 harg3 x1 o i i5))) h5) h6⟩ :: T9) y)
    (d : Fin 128) (l : Fin 256) :
    combine n (valueRead arg6 harg6 x4 n i6)
        (arg9.view.readCov (Val := Elt Ideal) L9 (Rect.unit (s := S2x1280x256) ![b9, 0, 0] (⟨3, ![1, n, 256]⟩ : Shape).size i11).toLoadRect)
        (reciprocal n (weights n
          (arg8.view.readCov (Val := Elt Ideal) L8 (Rect.unit (s := S3x1280x256) ![b8, 0, 0] (⟨3, ![1, n, 256]⟩ : Shape).size i10).toLoadRect)
          (maximumf (colMax 32 (strip Gen.kernelRun0_A.sl.v28 (extractStridedSlice S32x256 ![o, 0]
              (scores n (keyRead arg4 harg4 x2 n i1) (queryRead arg2 harg2 x0 o i 0#32 i2) (queryRead arg2 harg2 x0 o i 4#32 i3) (keyRead arg5 harg5 x3 n i4)) (rows_slices (le_of_eq hn)))))
            (colMax o (extractStridedSlice ⟨2, ![o, 256]⟩ ![0, 0]
              (scores n (keyRead arg4 harg4 x2 n i1) (queryRead arg2 harg2 x0 o i 0#32 i2) (queryRead arg2 harg2 x0 o i 4#32 i3) (keyRead arg5 harg5 x3 n i4)) (rows_slices (own_slices hn)))))
          (laneScale Gen.kernelRun0_A.sl.v58 (Gen.k0_pay10 Gen.kernelRun0_A.sl.v75 Gen.kernelRun0_A.sl.v91) (scaleRead arg3 harg3 x1 o i i5)))) (ix2 d l)
      = attend x0 x1 x2 x3 x4 ⟨o + l % 128 / 4, by omega⟩ (headOf i ⟨4 * (l / 128) + l % 4, by omega⟩) d :=
  core hn h h32 hs _ _ _ _ rfl (fun k l => read_scores hn _ _ _ _ hL8 k l) (fun l => max_scores hn _ l)
    (fun k l => read_weights _ _ _ _ hL9 k l) d l

/-- The first tile, whose keys are all in its own strip, computes the attention of its tokens. -/
theorem tile_first (hs : ∀ j, 0 < x1 j)
    {i1 i2 i3 i4 i5 i6 i7 i9 i10 i11 h2 h5 h6}
    {L8 T8 : List (View.Piece (Elt Ideal) S3x1280x256 .f32)} {L9 T9 : List (View.Piece (Elt Ideal) S2x1280x256 .bf16)}
    (hL8 : ∀ y : S3x1280x256.Idx, (y 0).val = 0 → View.canon L8 y = View.canon
      (⟨Rect.unit (s := S3x1280x256) ![0, 0, 0] S1x32x256.size i7, shapeCast S1x32x256 (strip Gen.kernelRun0_A.sl.v28
          (scores 32 (keyRead arg4 harg4 x2 32 i1) (queryRead arg2 harg2 x0 0 i 0#32 i2) (queryRead arg2 harg2 x0 0 i 4#32 i3) (keyRead arg5 harg5 x3 32 i4))) h2⟩ :: T8) y)
    (hL9 : ∀ y : S2x1280x256.Idx, (y 0).val = 0 → View.canon L9 y = View.canon
      (⟨Rect.unit (s := S2x1280x256) ![0, 0, 0] S1x32x256.size i9, shapeCast S1x32x256 (truncf .bf16 (weights 32
        (arg8.view.readCov (Val := Elt Ideal) L8 (Rect.unit (s := S3x1280x256) ![0, 0, 0] S1x32x256.size i10).toLoadRect)
        (colMax 32 (strip Gen.kernelRun0_A.sl.v28
            (scores 32 (keyRead arg4 harg4 x2 32 i1) (queryRead arg2 harg2 x0 0 i 0#32 i2) (queryRead arg2 harg2 x0 0 i 4#32 i3) (keyRead arg5 harg5 x3 32 i4))))
        (laneScale Gen.kernelRun0_A.sl.v58 (Gen.k0_pay10 Gen.kernelRun0_A.sl.v75 Gen.kernelRun0_A.sl.v91) (scaleRead arg3 harg3 x1 0 i i5))) h5) h6⟩ :: T9) y)
    (d : Fin 128) (l : Fin 256) :
    combine 32 (valueRead arg6 harg6 x4 32 i6)
        (arg9.view.readCov (Val := Elt Ideal) L9 (Rect.unit (s := S2x1280x256) ![0, 0, 0] S1x32x256.size i11).toLoadRect)
        (reciprocal 32 (weights 32
          (arg8.view.readCov (Val := Elt Ideal) L8 (Rect.unit (s := S3x1280x256) ![0, 0, 0] S1x32x256.size i10).toLoadRect)
          (colMax 32 (strip Gen.kernelRun0_A.sl.v28
              (scores 32 (keyRead arg4 harg4 x2 32 i1) (queryRead arg2 harg2 x0 0 i 0#32 i2) (queryRead arg2 harg2 x0 0 i 4#32 i3) (keyRead arg5 harg5 x3 32 i4))))
          (laneScale Gen.kernelRun0_A.sl.v58 (Gen.k0_pay10 Gen.kernelRun0_A.sl.v75 Gen.kernelRun0_A.sl.v91) (scaleRead arg3 harg3 x1 0 i i5)))) (ix2 d l)
      = attend x0 x1 x2 x3 x4 ⟨0 + l % 128 / 4, by omega⟩ (headOf i ⟨4 * (l / 128) + l % 4, by omega⟩) d := by
  have hk : ∀ (S : FVec Ideal S32x256 .f32) (k : Fin 32) (l : Fin 256), strip Gen.kernelRun0_A.sl.v28 S (ix2 k l) = masked 0 (n := 32) S k l := by
    intro S k l
    rw [strip_apply, mask_apply]
    unfold masked
    by_cases hm : k.val ≤ l.val % 128 / 4
    · rw [if_pos (by rw [if_pos hm]), if_pos (by omega)]
    · rw [if_neg (by rw [if_neg hm]; decide), if_neg (by omega)]
  refine core (o := 0) (n := 32) rfl (by omega) rfl hs _ _ _
    (scores 32 (keyRead arg4 harg4 x2 32 i1) (queryRead arg2 harg2 x0 0 i 0#32 i2) (queryRead arg2 harg2 x0 0 i 4#32 i3) (keyRead arg5 harg5 x3 32 i4)) rfl (fun k l => ?_) (fun l => ?_) (fun k l => read_weights _ _ _ _ hL9 k l) d l
  · rw [View.readCov_eq_canon']
    show View.canon L8 _ = _
    rw [hL8 _ rfl, canon_hit _ _ (ix3 0 k l) _ (by intro a; fin_cases a <;> simp [LoadRect.idx])]
    exact (tail_eq _ _ k l).trans (hk _ k l)
  · rw [colMax_apply]
    exact congrArg _ (funext fun k => hk _ k l)

/-- What the call's output block holds: at token `y 1` and column `y 2`, entry `y 2 % 128` of the attention of the point's head `y 2 / 128`. -/
def blockOut (i : grid0.Coords) (x0 : Vec Ideal S1x1280x16x128 .fp8e4m3) (x1 : Vec Ideal S1x16x1280 .f32) (x2 : Vec Ideal S1x1x1280x128 .fp8e4m3)
    (x3 : Vec Ideal S1x1x1280x128 .f32) (x4 : Vec Ideal S1x1x128x1280 .bf16) : S1x1280x1024.Idx → EReal := fun y =>
  attend x0 x1 x2 x3 x4 ⟨(y 1).val, (y 1).isLt⟩ (headOf i ⟨(y 2).val / 128, by have : (y 2).val < 1024 := (y 2).isLt; omega⟩)
    ⟨(y 2).val % 128, by omega⟩

/-- The rows a store writes, of rows read back from the scratch. -/
def stored (x : FVec Ideal S1x32x128 .f32) : FVec Ideal S1x32x128 .bf16 :=
  shapeCast S1x32x128 (truncf .bf16 (shapeCast S32x128 x (by decide)) (by decide) : FVec Ideal S32x128 .bf16) (by decide)

theorem stored_apply (x : FVec Ideal S1x32x128 .f32) (t : Fin 32) (e : Fin 128) : stored x (ix3 0 t e) = x (ix3 0 t e) := by
  unfold stored
  refine (tail_eq _ _ t e).trans ?_
  rw [lead_eq]
  rfl

/-- One head's store of a tile: the tile's outputs for that head, turned to one row for each token. -/
theorem piece {o : ℕ} (h : o + 32 ≤ 1280) (w g : ℕ) (hw : w < 2) (hg : g < 4) {O : FVec Ideal S128x256 .f32}
    (hO : ∀ d l, O (ix2 d l) = attend x0 x1 x2 x3 x4 ⟨o + l % 128 / 4, by omega⟩ (headOf i ⟨4 * (l / 128) + l % 4, by omega⟩) d)
    {h1 h2 h3} {i1 i2} (i3) {T : List (View.Piece (Elt Ideal) S2x128x128 .f32)} (x : S1x32x128.Idx) :
    (stored (arg10.view.readCov (Val := Elt Ideal)
      (⟨Rect.unit ![w, 0, 0] S1x128x128.size i1, shapeCast S1x128x128 (transpose S128x128 [1, 0] (extractStridedSlice S128x128 ![0, 128 * w] O h1) h2) h3⟩ :: T)
      { off := ![w, g, 0], size := S1x32x128.size, stride := ![1, 4, 1], inb := i2 })) x
      = blockOut i x0 x1 x2 x3 x4 ((Rect.unit (s := S1x1280x1024) ![0, o, 128 * (4 * w + g)] S1x32x128.size i3).emb x) := by
  obtain ⟨t, e, rfl⟩ : ∃ (t : Fin 32) (e : Fin 128), x = ix3 0 t e := by
    refine ⟨x 1, x 2, funext fun a => ?_⟩
    fin_cases a
    · exact Subsingleton.elim (α := Fin 1) _ _
    · rfl
    · rfl
  refine (stored_apply _ t e).trans ?_
  rw [View.readCov_eq_canon']
  show View.canon _ _ = _
  rw [canon_hit _ _ (ix3 0 ⟨4 * t.val + g, by omega⟩ e) _ (by
    intro a
    fin_cases a
    · show w + 1 * 0 = w + 0; rfl
    · show g + 4 * t.val = 0 + (4 * t.val + g); omega
    · show 0 + 1 * e.val = 0 + e.val; omega)]
  refine (tail_eq _ _ _ _).trans ?_
  have he : transpose S128x128 [1, 0] (extractStridedSlice S128x128 ![0, 128 * w] O h1) h2 (ix2 ⟨4 * t.val + g, by omega⟩ e)
      = O (ix2 e ⟨128 * w + (4 * t.val + g), by omega⟩) := by
    pointwise
  rw [he, hO]
  unfold blockOut
  congr 1
  · exact Fin.ext (by show o + (128 * w + (4 * t.val + g)) % 128 / 4 = o + 1 * t.val; omega)
  · exact congrArg (headOf i) (Fin.ext (by
      show 4 * ((128 * w + (4 * t.val + g)) / 128) + (128 * w + (4 * t.val + g)) % 4 = (128 * (4 * w + g) + 1 * e.val) / 128; omega))
  · exact Fin.ext (by show e.val = (128 * (4 * w + g) + 1 * e.val) % 128; omega)

/-- The pieces of a list of writes each hold their part of the call's output block. -/
def Holds (i : grid0.Coords) (x0 : Vec Ideal S1x1280x16x128 .fp8e4m3) (x1 : Vec Ideal S1x16x1280 .f32) (x2 : Vec Ideal S1x1x1280x128 .fp8e4m3)
    (x3 : Vec Ideal S1x1x1280x128 .f32) (x4 : Vec Ideal S1x1x128x1280 .bf16) (L : List (View.Piece (Elt Ideal) S1x1280x1024 .bf16)) : Prop :=
  ∀ p ∈ L, ∀ x : p.1.shape.Idx, p.2 x = blockOut i x0 x1 x2 x3 x4 (p.1.emb x)

theorem Holds.nil : Holds i x0 x1 x2 x3 x4 [] := fun _ h => absurd h List.not_mem_nil

/-- One more head stored. -/
theorem Holds.cons {o : ℕ} (h : o + 32 ≤ 1280) (w g : ℕ) (hw : w < 2) (hg : g < 4) {O : FVec Ideal S128x256 .f32}
    (hO : ∀ d l, O (ix2 d l) = attend x0 x1 x2 x3 x4 ⟨o + l % 128 / 4, by omega⟩ (headOf i ⟨4 * (l / 128) + l % 4, by omega⟩) d)
    {h1 h2 h3} {i1 i2 i3} {T : List (View.Piece (Elt Ideal) S2x128x128 .f32)} {L : List (View.Piece (Elt Ideal) S1x1280x1024 .bf16)}
    (hL : Holds i x0 x1 x2 x3 x4 L) :
    Holds i x0 x1 x2 x3 x4 (⟨Rect.unit (s := S1x1280x1024) ![0, o, 128 * (4 * w + g)] S1x32x128.size i3,
      ((stored (arg10.view.readCov (Val := Elt Ideal)
        (⟨Rect.unit ![w, 0, 0] S1x128x128.size i1, shapeCast S1x128x128 (transpose S128x128 [1, 0] (extractStridedSlice S128x128 ![0, 128 * w] O h1) h2) h3⟩ :: T)
        { off := ![w, g, 0], size := S1x32x128.size, stride := ![1, 4, 1], inb := i2 })) : FVec Ideal S1x32x128 .bf16)⟩ :: L) := by
  intro p hp
  rcases List.mem_cons.1 hp with rfl | hp
  · exact fun x => piece h w g hw hg hO i3 x
  · exact hL p hp

/-- A tile's eight stores, the last head first. -/
theorem Holds.tile {o : ℕ} (h : o + 32 ≤ 1280) {O : FVec Ideal S128x256 .f32}
    (hO : ∀ d l, O (ix2 d l) = attend x0 x1 x2 x3 x4 ⟨o + l % 128 / 4, by omega⟩ (headOf i ⟨4 * (l / 128) + l % 4, by omega⟩) d)
    {i0 i1 j0 j1 j2 j3 j4 j5 j6 j7 k0 k1 k2 k3 k4 k5 k6 k7} {T U : List (View.Piece (Elt Ideal) S2x128x128 .f32)} {L : List (View.Piece (Elt Ideal) S1x1280x1024 .bf16)}
    (hL : Holds i x0 x1 x2 x3 x4 L) :
    Holds i x0 x1 x2 x3 x4 (
      ⟨Rect.unit (s := S1x1280x1024) ![0, o, 896] S1x32x128.size k7,
        ((stored (arg10.view.readCov (Val := Elt Ideal)
          (⟨Rect.unit ![1, 0, 0] S1x128x128.size i1, shapeCast S1x128x128 (transpose S128x128 [1, 0] (extractStridedSlice S128x128 ![0, 128] O (by decide)) (by decide)) (by decide)⟩ :: U)
          { off := ![1, 3, 0], size := S1x32x128.size, stride := ![1, 4, 1], inb := j7 })) : FVec Ideal S1x32x128 .bf16)⟩ ::
      ⟨Rect.unit (s := S1x1280x1024) ![0, o, 768] S1x32x128.size k6,
        ((stored (arg10.view.readCov (Val := Elt Ideal)
          (⟨Rect.unit ![1, 0, 0] S1x128x128.size i1, shapeCast S1x128x128 (transpose S128x128 [1, 0] (extractStridedSlice S128x128 ![0, 128] O (by decide)) (by decide)) (by decide)⟩ :: U)
          { off := ![1, 2, 0], size := S1x32x128.size, stride := ![1, 4, 1], inb := j6 })) : FVec Ideal S1x32x128 .bf16)⟩ ::
      ⟨Rect.unit (s := S1x1280x1024) ![0, o, 640] S1x32x128.size k5,
        ((stored (arg10.view.readCov (Val := Elt Ideal)
          (⟨Rect.unit ![1, 0, 0] S1x128x128.size i1, shapeCast S1x128x128 (transpose S128x128 [1, 0] (extractStridedSlice S128x128 ![0, 128] O (by decide)) (by decide)) (by decide)⟩ :: U)
          { off := ![1, 1, 0], size := S1x32x128.size, stride := ![1, 4, 1], inb := j5 })) : FVec Ideal S1x32x128 .bf16)⟩ ::
      ⟨Rect.unit (s := S1x1280x1024) ![0, o, 512] S1x32x128.size k4,
        ((stored (arg10.view.readCov (Val := Elt Ideal)
          (⟨Rect.unit ![1, 0, 0] S1x128x128.size i1, shapeCast S1x128x128 (transpose S128x128 [1, 0] (extractStridedSlice S128x128 ![0, 128] O (by decide)) (by decide)) (by decide)⟩ :: U)
          { off := ![1, 0, 0], size := S1x32x128.size, stride := ![1, 4, 1], inb := j4 })) : FVec Ideal S1x32x128 .bf16)⟩ ::
      ⟨Rect.unit (s := S1x1280x1024) ![0, o, 384] S1x32x128.size k3,
        ((stored (arg10.view.readCov (Val := Elt Ideal)
          (⟨Rect.unit ![0, 0, 0] S1x128x128.size i0, shapeCast S1x128x128 (transpose S128x128 [1, 0] (extractStridedSlice S128x128 ![0, 0] O (by decide)) (by decide)) (by decide)⟩ :: T)
          { off := ![0, 3, 0], size := S1x32x128.size, stride := ![1, 4, 1], inb := j3 })) : FVec Ideal S1x32x128 .bf16)⟩ ::
      ⟨Rect.unit (s := S1x1280x1024) ![0, o, 256] S1x32x128.size k2,
        ((stored (arg10.view.readCov (Val := Elt Ideal)
          (⟨Rect.unit ![0, 0, 0] S1x128x128.size i0, shapeCast S1x128x128 (transpose S128x128 [1, 0] (extractStridedSlice S128x128 ![0, 0] O (by decide)) (by decide)) (by decide)⟩ :: T)
          { off := ![0, 2, 0], size := S1x32x128.size, stride := ![1, 4, 1], inb := j2 })) : FVec Ideal S1x32x128 .bf16)⟩ ::
      ⟨Rect.unit (s := S1x1280x1024) ![0, o, 128] S1x32x128.size k1,
        ((stored (arg10.view.readCov (Val := Elt Ideal)
          (⟨Rect.unit ![0, 0, 0] S1x128x128.size i0, shapeCast S1x128x128 (transpose S128x128 [1, 0] (extractStridedSlice S128x128 ![0, 0] O (by decide)) (by decide)) (by decide)⟩ :: T)
          { off := ![0, 1, 0], size := S1x32x128.size, stride := ![1, 4, 1], inb := j1 })) : FVec Ideal S1x32x128 .bf16)⟩ ::
      ⟨Rect.unit (s := S1x1280x1024) ![0, o, 0] S1x32x128.size k0,
        ((stored (arg10.view.readCov (Val := Elt Ideal)
          (⟨Rect.unit ![0, 0, 0] S1x128x128.size i0, shapeCast S1x128x128 (transpose S128x128 [1, 0] (extractStridedSlice S128x128 ![0, 0] O (by decide)) (by decide)) (by decide)⟩ :: T)
          { off := ![0, 0, 0], size := S1x32x128.size, stride := ![1, 4, 1], inb := j0 })) : FVec Ideal S1x32x128 .bf16)⟩ ::
      L) :=
  .cons h 1 3 (by omega) (by omega) hO <| .cons h 1 2 (by omega) (by omega) hO <| .cons h 1 1 (by omega) (by omega) hO <| .cons h 1 0 (by omega) (by omega) hO <| .cons h 0 3 (by omega) (by omega) hO <| .cons h 0 2 (by omega) (by omega) hO <| .cons h 0 1 (by omega) (by omega) hO <| .cons h 0 0 (by omega) (by omega) hO <| hL

end

end Cert.Attention

end
-- ==== Proof.Run.lean ====
module

public import proofs.«01_k».proof.Proof.Tiles
public import proofs.«01_k».proof.Proof.Gen.KernelIdeal.Frame

@[expose] public section

set_option maxRecDepth 16384

noncomputable section

namespace Cert.Attention

open Idealize.ShloMosaic Cert.KernelIdeal Finset

/-- A buffer's own last writes are the ones it is read back from. -/
theorem own {e : EltTy} {S : Shape} (L : List (View.Piece (Elt Ideal) S e)) (a : Fin S.rank) (b : ℕ) :
    ∀ y : S.Idx, (y a).val = b → View.canon L y = View.canon L y := fun _ _ => rfl

/-- Every store of the body holds its part of the attention of the point's eight heads. -/
theorem run_holds (c : Dev nD) (i : grid0.Coords) (arg2 : Memref sig .tc .vmem S1x1280x16x128 .fp8e4m3) (harg2 : arg2.IsWhole) (arg3 : Memref sig .tc .vmem S1x16x1280 .f32) (harg3 : arg3.IsWhole)
    (arg4 : Memref sig .tc .vmem S1x1x1280x128 .fp8e4m3) (harg4 : arg4.IsWhole) (arg5 : Memref sig .tc .vmem S1x1x1280x128 .f32) (harg5 : arg5.IsWhole)
    (arg6 : Memref sig .tc .vmem S1x1x128x1280 .bf16) (harg6 : arg6.IsWhole) (arg7 : Memref sig .tc .vmem S1x1280x1024 .bf16) (harg7 : arg7.IsWhole)
    (arg8 : Memref sig .tc .vmem S3x1280x256 .f32) (harg8 : arg8.IsWhole) (arg9 : Memref sig .tc .vmem S2x1280x256 .bf16) (harg9 : arg9.IsWhole)
    (arg10 : Memref sig .tc .vmem S2x128x128 .f32) (harg10 : arg10.IsWhole)
    (x0 : Vec Ideal S1x1280x16x128 .fp8e4m3) (x1 : Vec Ideal S1x16x1280 .f32) (x2 : Vec Ideal S1x1x1280x128 .fp8e4m3)
    (x3 : Vec Ideal S1x1x1280x128 .f32) (x4 : Vec Ideal S1x1x128x1280 .bf16) (hs : ∀ j, 0 < x1 j) :
    Holds i x0 x1 x2 x3 x4 (Gen.kernelRun0_A c i arg2 harg2 arg3 harg3 arg4 harg4 arg5 harg5 arg6 harg6 arg7 harg7 arg8 harg8 arg9 harg9 arg10 harg10 x0 x1 x2 x3 x4).1 := by
  refine .tile (o := 1248) (by omega) (tile (n := 1280) (b8 := 0) (b9 := 1) rfl (by omega) rfl hs (own _ 0 _) (own _ 0 _)) ?_
  refine .tile (o := 1216) (by omega) (tile (n := 1248) (b8 := 2) (b9 := 0) rfl (by omega) rfl hs (skip1 (by decide) <| skip1 (by decide) <| own _ 0 _) (skip1 (by decide) <| own _ 0 _)) ?_
  refine .tile (o := 1184) (by omega) (tile (n := 1216) (b8 := 1) (b9 := 1) rfl (by omega) rfl hs (skip1 (by decide) <| skip1 (by decide) <| skip1 (by decide) <| skip1 (by decide) <| own _ 0 _) (skip1 (by decide) <| own _ 0 _)) ?_
  refine .tile (o := 1152) (by omega) (tile (n := 1184) (b8 := 0) (b9 := 0) rfl (by omega) rfl hs (skip1 (by decide) <| skip1 (by decide) <| skip1 (by decide) <| skip1 (by decide) <| own _ 0 _) (skip1 (by decide) <| own _ 0 _)) ?_
  refine .tile (o := 1120) (by omega) (tile (n := 1152) (b8 := 2) (b9 := 1) rfl (by omega) rfl hs (skip1 (by decide) <| skip1 (by decide) <| skip1 (by decide) <| skip1 (by decide) <| own _ 0 _) (skip1 (by decide) <| own _ 0 _)) ?_
  refine .tile (o := 1088) (by omega) (tile (n := 1120) (b8 := 1) (b9 := 0) rfl (by omega) rfl hs (skip1 (by decide) <| skip1 (by decide) <| skip1 (by decide) <| skip1 (by decide) <| own _ 0 _) (skip1 (by decide) <| own _ 0 _)) ?_
  refine .tile (o := 1056) (by omega) (tile (n := 1088) (b8 := 0) (b9 := 1) rfl (by omega) rfl hs (skip1 (by decide) <| skip1 (by decide) <| skip1 (by decide) <| skip1 (by decide) <| own _ 0 _) (skip1 (by decide) <| own _ 0 _)) ?_
  refine .tile (o := 1024) (by omega) (tile (n := 1056) (b8 := 2) (b9 := 0) rfl (by omega) rfl hs (skip1 (by decide) <| skip1 (by decide) <| skip1 (by decide) <| skip1 (by decide) <| own _ 0 _) (skip1 (by decide) <| own _ 0 _)) ?_
  refine .tile (o := 992) (by omega) (tile (n := 1024) (b8 := 1) (b9 := 1) rfl (by omega) rfl hs (skip1 (by decide) <| skip1 (by decide) <| skip1 (by decide) <| skip1 (by decide) <| own _ 0 _) (skip1 (by decide) <| own _ 0 _)) ?_
  refine .tile (o := 960) (by omega) (tile (n := 992) (b8 := 0) (b9 := 0) rfl (by omega) rfl hs (skip1 (by decide) <| skip1 (by decide) <| skip1 (by decide) <| skip1 (by decide) <| own _ 0 _) (skip1 (by decide) <| own _ 0 _)) ?_
  refine .tile (o := 928) (by omega) (tile (n := 960) (b8 := 2) (b9 := 1) rfl (by omega) rfl hs (skip1 (by decide) <| skip1 (by decide) <| skip1 (by decide) <| skip1 (by decide) <| own _ 0 _) (skip1 (by decide) <| own _ 0 _)) ?_
  refine .tile (o := 896) (by omega) (tile (n := 928) (b8 := 1) (b9 := 0) rfl (by omega) rfl hs (skip1 (by decide) <| skip1 (by decide) <| skip1 (by decide) <| skip1 (by decide) <| own _ 0 _) (skip1 (by decide) <| own _ 0 _)) ?_
  refine .tile (o := 864) (by omega) (tile (n := 896) (b8 := 0) (b9 := 1) rfl (by omega) rfl hs (skip1 (by decide) <| skip1 (by decide) <| skip1 (by decide) <| skip1 (by decide) <| own _ 0 _) (skip1 (by decide) <| own _ 0 _)) ?_
  refine .tile (o := 832) (by omega) (tile (n := 864) (b8 := 2) (b9 := 0) rfl (by omega) rfl hs (skip1 (by decide) <| skip1 (by decide) <| skip1 (by decide) <| skip1 (by decide) <| own _ 0 _) (skip1 (by decide) <| own _ 0 _)) ?_
  refine .tile (o := 800) (by omega) (tile (n := 832) (b8 := 1) (b9 := 1) rfl (by omega) rfl hs (skip1 (by decide) <| skip1 (by decide) <| skip1 (by decide) <| skip1 (by decide) <| own _ 0 _) (skip1 (by decide) <| own _ 0 _)) ?_
  refine .tile (o := 768) (by omega) (tile (n := 800) (b8 := 0) (b9 := 0) rfl (by omega) rfl hs (skip1 (by decide) <| skip1 (by decide) <| skip1 (by decide) <| skip1 (by decide) <| own _ 0 _) (skip1 (by decide) <| own _ 0 _)) ?_
  refine .tile (o := 736) (by omega) (tile (n := 768) (b8 := 2) (b9 := 1) rfl (by omega) rfl hs (skip1 (by decide) <| skip1 (by decide) <| skip1 (by decide) <| skip1 (by decide) <| own _ 0 _) (skip1 (by decide) <| own _ 0 _)) ?_
  refine .tile (o := 704) (by omega) (tile (n := 736) (b8 := 1) (b9 := 0) rfl (by omega) rfl hs (skip1 (by decide) <| skip1 (by decide) <| skip1 (by decide) <| skip1 (by decide) <| own _ 0 _) (skip1 (by decide) <| own _ 0 _)) ?_
  refine .tile (o := 672) (by omega) (tile (n := 704) (b8 := 0) (b9 := 1) rfl (by omega) rfl hs (skip1 (by decide) <| skip1 (by decide) <| skip1 (by decide) <| skip1 (by decide) <| own _ 0 _) (skip1 (by decide) <| own _ 0 _)) ?_
  refine .tile (o := 640) (by omega) (tile (n := 672) (b8 := 2) (b9 := 0) rfl (by omega) rfl hs (skip1 (by decide) <| skip1 (by decide) <| skip1 (by decide) <| skip1 (by decide) <| own _ 0 _) (skip1 (by decide) <| own _ 0 _)) ?_
  refine .tile (o := 608) (by omega) (tile (n := 640) (b8 := 1) (b9 := 1) rfl (by omega) rfl hs (skip1 (by decide) <| skip1 (by decide) <| skip1 (by decide) <| skip1 (by decide) <| own _ 0 _) (skip1 (by decide) <| own _ 0 _)) ?_
  refine .tile (o := 576) (by omega) (tile (n := 608) (b8 := 0) (b9 := 0) rfl (by omega) rfl hs (skip1 (by decide) <| skip1 (by decide) <| skip1 (by decide) <| skip1 (by decide) <| own _ 0 _) (skip1 (by decide) <| own _ 0 _)) ?_
  refine .tile (o := 544) (by omega) (tile (n := 576) (b8 := 2) (b9 := 1) rfl (by omega) rfl hs (skip1 (by decide) <| skip1 (by decide) <| skip1 (by decide) <| skip1 (by decide) <| own _ 0 _) (skip1 (by decide) <| own _ 0 _)) ?_
  refine .tile (o := 512) (by omega) (tile (n := 544) (b8 := 1) (b9 := 0) rfl (by omega) rfl hs (skip1 (by decide) <| skip1 (by decide) <| skip1 (by decide) <| skip1 (by decide) <| own _ 0 _) (skip1 (by decide) <| own _ 0 _)) ?_
  refine .tile (o := 480) (by omega) (tile (n := 512) (b8 := 0) (b9 := 1) rfl (by omega) rfl hs (skip1 (by decide) <| skip1 (by decide) <| skip1 (by decide) <| skip1 (by decide) <| own _ 0 _) (skip1 (by decide) <| own _ 0 _)) ?_
  refine .tile (o := 448) (by omega) (tile (n := 480) (b8 := 2) (b9 := 0) rfl (by omega) rfl hs (skip1 (by decide) <| skip1 (by decide) <| skip1 (by decide) <| skip1 (by decide) <| own _ 0 _) (skip1 (by decide) <| own _ 0 _)) ?_
  refine .tile (o := 416) (by omega) (tile (n := 448) (b8 := 1) (b9 := 1) rfl (by omega) rfl hs (skip1 (by decide) <| skip1 (by decide) <| skip1 (by decide) <| skip1 (by decide) <| own _ 0 _) (skip1 (by decide) <| own _ 0 _)) ?_
  refine .tile (o := 384) (by omega) (tile (n := 416) (b8 := 0) (b9 := 0) rfl (by omega) rfl hs (skip1 (by decide) <| skip1 (by decide) <| skip1 (by decide) <| skip1 (by decide) <| own _ 0 _) (skip1 (by decide) <| own _ 0 _)) ?_
  refine .tile (o := 352) (by omega) (tile (n := 384) (b8 := 2) (b9 := 1) rfl (by omega) rfl hs (skip1 (by decide) <| skip1 (by decide) <| skip1 (by decide) <| skip1 (by decide) <| own _ 0 _) (skip1 (by decide) <| own _ 0 _)) ?_
  refine .tile (o := 320) (by omega) (tile (n := 352) (b8 := 1) (b9 := 0) rfl (by omega) rfl hs (skip1 (by decide) <| skip1 (by decide) <| skip1 (by decide) <| skip1 (by decide) <| own _ 0 _) (skip1 (by decide) <| own _ 0 _)) ?_
  refine .tile (o := 288) (by omega) (tile (n := 320) (b8 := 0) (b9 := 1) rfl (by omega) rfl hs (skip1 (by decide) <| skip1 (by decide) <| skip1 (by decide) <| skip1 (by decide) <| own _ 0 _) (skip1 (by decide) <| own _ 0 _)) ?_
  refine .tile (o := 256) (by omega) (tile (n := 288) (b8 := 2) (b9 := 0) rfl (by omega) rfl hs (skip1 (by decide) <| skip1 (by decide) <| skip1 (by decide) <| skip1 (by decide) <| own _ 0 _) (skip1 (by decide) <| own _ 0 _)) ?_
  refine .tile (o := 224) (by omega) (tile (n := 256) (b8 := 1) (b9 := 1) rfl (by omega) rfl hs (skip1 (by decide) <| skip1 (by decide) <| skip1 (by decide) <| skip1 (by decide) <| own _ 0 _) (skip1 (by decide) <| own _ 0 _)) ?_
  refine .tile (o := 192) (by omega) (tile (n := 224) (b8 := 0) (b9 := 0) rfl (by omega) rfl hs (skip1 (by decide) <| skip1 (by decide) <| skip1 (by decide) <| skip1 (by decide) <| own _ 0 _) (skip1 (by decide) <| own _ 0 _)) ?_
  refine .tile (o := 160) (by omega) (tile (n := 192) (b8 := 2) (b9 := 1) rfl (by omega) rfl hs (skip1 (by decide) <| skip1 (by decide) <| skip1 (by decide) <| skip1 (by decide) <| own _ 0 _) (skip1 (by decide) <| own _ 0 _)) ?_
  refine .tile (o := 128) (by omega) (tile (n := 160) (b8 := 1) (b9 := 0) rfl (by omega) rfl hs (skip1 (by decide) <| skip1 (by decide) <| skip1 (by decide) <| skip1 (by decide) <| own _ 0 _) (skip1 (by decide) <| own _ 0 _)) ?_
  refine .tile (o := 96) (by omega) (tile (n := 128) (b8 := 0) (b9 := 1) rfl (by omega) rfl hs (skip1 (by decide) <| skip1 (by decide) <| skip1 (by decide) <| skip1 (by decide) <| own _ 0 _) (skip1 (by decide) <| own _ 0 _)) ?_
  refine .tile (o := 64) (by omega) (tile (n := 96) (b8 := 2) (b9 := 0) rfl (by omega) rfl hs (skip1 (by decide) <| skip1 (by decide) <| skip1 (by decide) <| skip1 (by decide) <| own _ 0 _) (skip1 (by decide) <| own _ 0 _)) ?_
  refine .tile (o := 32) (by omega) (tile (n := 64) (b8 := 1) (b9 := 1) rfl (by omega) rfl hs (skip1 (by decide) <| skip1 (by decide) <| skip1 (by decide) <| skip1 (by decide) <| own _ 0 _) (skip1 (by decide) <| own _ 0 _)) ?_
  refine .tile (o := 0) (by omega) (tile_first hs (skip1 (by decide) <| skip1 (by decide) <| skip1 (by decide) <| skip1 (by decide) <| own _ 0 _) (skip1 (by decide) <| own _ 0 _)) ?_
  exact .nil

end Cert.Attention

end
-- ==== Proof.KernelValue.lean ====
module

public import proofs.«01_k».proof.Proof.Run
public import proofs.«01_k».proof.Proof.Gen.KernelIdeal.Value
public import Idealize.ShloMosaic.Lib.Claim
public import Idealize.ShloMosaic.Lib.StableHlo.ReadAt

@[expose] public section

noncomputable section

namespace Cert.Attention

open Idealize.ShloMosaic Idealize.ShloMosaic.TcCoe Cert.KernelIdeal Cert.KernelIdeal.Gen Finset

/-- The score of key `k` for head `hd` of token `row` of batch `b`, before the query's scale; minus infinity past the token. -/
def score (Q : S4x1280x16x128.Idx → EReal) (K : S4x2x1280x128.Idx → EReal) (KS : S4x1280x2.Idx → EReal)
    (b : Fin 4) (row : Fin 1280) (hd : Fin 16) (k : ℕ) : EReal :=
  if h : k ≤ row.val then
    (∑ d : Fin 128, K (ix4 b ⟨hd / 8, by omega⟩ ⟨k, by omega⟩ d) * Q (ix4 b row hd d)) * KS (ix3 b ⟨k, by omega⟩ ⟨hd / 8, by omega⟩)
  else ⊥

/-- Entry `d` of the value of key `k` of batch `b` and key head `kv`. -/
def entry (V : S4x1280x2x128.Idx → EReal) (b : Fin 4) (kv : Fin 2) (d : Fin 128) (k : ℕ) : EReal :=
  if h : k < 1280 then V (ix4 b ⟨k, h⟩ kv d) else 0

/-- Entry `d` of head `hd` of token `row` of batch `b` of the attention of the five arrays. -/
def attention (Q : S4x1280x16x128.Idx → EReal) (QS : S4x1280x16.Idx → EReal) (K : S4x2x1280x128.Idx → EReal) (KS : S4x1280x2.Idx → EReal)
    (V : S4x1280x2x128.Idx → EReal) (b : Fin 4) (row : Fin 1280) (hd : Fin 16) (d : Fin 128) : EReal :=
  average (score Q K KS b row hd) (entry V b ⟨hd / 8, by omega⟩ d) (QS (ix3 b row hd) * (((Real.sqrt 128)⁻¹ : ℝ) : EReal))

/-- Every element is positive. -/
def Positive {s : Shape} (x : s.Idx → EReal) : Prop := ∀ j, 0 < x j

theorem index0 : ∀ t : Fin grid0.N, win0_0.index t = ![t.val / 2, 0, 0, 0] := by decide +kernel
theorem index1 : ∀ t : Fin grid0.N, win0_1.index t = ![t.val / 2, 0, 0] := by decide +kernel
theorem index2 : ∀ t : Fin grid0.N, win0_2.index t = ![t.val / 2, t.val % 2, 0, 0] := by decide +kernel
theorem index3 : ∀ t : Fin grid0.N, win0_3.index t = ![t.val / 2, t.val % 2, 0, 0] := by decide +kernel
theorem index4 : ∀ t : Fin grid0.N, win0_4.index t = ![t.val / 2, t.val % 2, 0, 0] := by decide +kernel
theorem index5 : ∀ t : Fin grid0.N, win0_5.index t = ![t.val / 2, 0, t.val % 2] := by decide +kernel
theorem coord1 : ∀ t : Fin grid0.N, (grid0.coords t 1).val = t.val % 2 := by decide +kernel

section
variable (m : (ℓ : Loc nD τ sig) → Buf (Elt Ideal) ℓ)

/-- The batch of a point of the grid, and its key head. -/
def batch (t : Fin cfg0.N) : Fin 4 := ⟨t.val / 2, by have : t.val < 8 := N_0 ▸ t.isLt; omega⟩
def keyHead (t : Fin cfg0.N) : Fin 2 := ⟨t.val % 2, by omega⟩

theorem block0 (c : Dev nD) (t : Fin cfg0.N) (r : Fin 1280) (h : Fin 16) (d : Fin 128) :
    iblk m c 0 t (ix4 0 r h d) = m ((c : Thread nD τ).loc main_arg0) (ix4 (batch t) r h d) := by
  rw [← V_main_arg0 m c]
  show V m c main_arg0 _ = V m c main_arg0 _
  congr 1
  funext a
  apply Fin.ext
  show win0_0.index t a * win0_0.size a + 1 * ((ix4 0 r h d : S1x1280x16x128.Idx) a).val = _
  rw [index0]
  fin_cases a <;> simp [batch]

theorem block2 (c : Dev nD) (t : Fin cfg0.N) (k : Fin 1280) (d : Fin 128) :
    iblk m c 2 t (ix4 0 0 k d) = m ((c : Thread nD τ).loc main_arg2) (ix4 (batch t) (keyHead t) k d) := by
  rw [← V_main_arg2 m c]
  show V m c main_arg2 _ = V m c main_arg2 _
  congr 1
  funext a
  apply Fin.ext
  show win0_2.index t a * win0_2.size a + 1 * ((ix4 0 0 k d : S1x1x1280x128.Idx) a).val = _
  rw [index2]
  fin_cases a <;> simp [batch, keyHead]

theorem entry1 (c : Dev nD) (b : Fin 4) (h : Fin 16) (r : Fin 1280) :
    V m c main_v0 (ix3 b h r) = m ((c : Thread nD τ).loc main_arg1) (ix3 b r h) := by
  entry_read
  pointwise

theorem entry3 (c : Dev nD) (b : Fin 4) (h : Fin 2) (k : Fin 1280) (l : Fin 128) :
    V m c main_v3 (ix4 b h k l) = m ((c : Thread nD τ).loc main_arg3) (ix3 b k h) := by
  entry_read
  pointwise

theorem entry4 (c : Dev nD) (b : Fin 4) (h : Fin 2) (d : Fin 128) (k : Fin 1280) :
    V m c main_v4 (ix4 b h d k) = m ((c : Thread nD τ).loc main_arg4) (ix4 b k h d) := by
  entry_read
  pointwise

theorem block1 (c : Dev nD) (t : Fin cfg0.N) (h : Fin 16) (r : Fin 1280) :
    iblk m c 1 t (ix3 0 h r) = m ((c : Thread nD τ).loc main_arg1) (ix3 (batch t) r h) := by
  rw [← entry1 m c (batch t) h r]
  show V m c main_v0 _ = V m c main_v0 _
  congr 1
  funext a
  apply Fin.ext
  show win0_1.index t a * win0_1.size a + 1 * ((ix3 0 h r : S1x16x1280.Idx) a).val = _
  rw [index1]
  fin_cases a <;> simp [batch]

theorem block3 (c : Dev nD) (t : Fin cfg0.N) (k : Fin 1280) (l : Fin 128) :
    iblk m c 3 t (ix4 0 0 k l) = m ((c : Thread nD τ).loc main_arg3) (ix3 (batch t) k (keyHead t)) := by
  rw [← entry3 m c (batch t) (keyHead t) k l]
  show V m c main_v3 _ = V m c main_v3 _
  congr 1
  funext a
  apply Fin.ext
  show win0_3.index t a * win0_3.size a + 1 * ((ix4 0 0 k l : S1x1x1280x128.Idx) a).val = _
  rw [index3]
  fin_cases a <;> simp [batch, keyHead]

theorem block4 (c : Dev nD) (t : Fin cfg0.N) (d : Fin 128) (k : Fin 1280) :
    iblk m c 4 t (ix4 0 0 d k) = m ((c : Thread nD τ).loc main_arg4) (ix4 (batch t) k (keyHead t) d) := by
  rw [← entry4 m c (batch t) (keyHead t) d k]
  show V m c main_v4 _ = V m c main_v4 _
  congr 1
  funext a
  apply Fin.ext
  show win0_4.index t a * win0_4.size a + 1 * ((ix4 0 0 d k : S1x1x128x1280.Idx) a).val = _
  rw [index4]
  fin_cases a <;> simp [batch, keyHead]

/-- A point of the grid computes the attention of its batch for the eight heads of its key head. -/
theorem attend_block (c : Dev nD) (t : Fin cfg0.N) (row : Fin 1280) (g : Fin 8) (d : Fin 128) :
    attend (iblk m c 0 t) (iblk m c 1 t) (iblk m c 2 t) (iblk m c 3 t) (iblk m c 4 t) row (headOf (grid0.coords t) g) d
      = attention (m ((c : Thread nD τ).loc main_arg0)) (m ((c : Thread nD τ).loc main_arg1)) (m ((c : Thread nD τ).loc main_arg2))
          (m ((c : Thread nD τ).loc main_arg3)) (m ((c : Thread nD τ).loc main_arg4)) (batch t) row (headOf (grid0.coords t) g) d := by
  have hk : (⟨(headOf (grid0.coords t) g).val / 8, by omega⟩ : Fin 2) = keyHead t := by
    apply Fin.ext
    show (8 * (grid0.coords t 1).val + g.val) / 8 = t.val % 2
    rw [coord1]
    omega
  unfold attend attention
  congr 1
  · funext k
    unfold logit score
    by_cases h : k ≤ row.val
    · rw [dif_pos h, dif_pos h, hk]
      simp only [block0, block2, block3]
    · rw [dif_neg h, dif_neg h]
  · funext k
    unfold value entry
    by_cases h : k < 1280
    · rw [dif_pos h, dif_pos h, hk, block4]
    · rw [dif_neg h, dif_neg h]
  · rw [block1]

/-- What a point of the grid writes back. -/
theorem out_block (c : Dev nD) (t : Fin cfg0.N) (hs : Positive (s := S1x16x1280) (iblk m c 1 t)) (y : S1x1280x1024.Idx) :
    (dats m 0 c).flushed 5 t y = blockOut (grid0.coords t) (iblk m c 0 t) (iblk m c 1 t) (iblk m c 2 t) (iblk m c 3 t) (iblk m c 4 t) y := by
  rw [Value.flushed5_A]
  show out0_A_5 _ _ _ _ _ _ _ _ _ _ _ _ _ _ _ _ _ _ _ _ _ _ _ _ _ y = _
  unfold out0_A_5
  exact View.read_writes_apply_of_pieces _ _ _ _ (run_holds _ _ _ _ _ _ _ _ _ _ _ _ _ _ _ _ _ _ _ _ _ _ _ _ _ hs) y
    (cover0_A_5 _ _ _ _ _ _ _ _ _ _ _ _ _ _ _ _ _ _ _ _ _ _ _ _ _ y)

/-- An element of the block a point writes back, as an element of the result. -/
theorem out_index (t : Fin cfg0.N) (A : S4x1280x2048.Idx → EReal) (j : S1x1280x1024.Idx) (y : S4x1280x2048.Idx)
    (h : ∀ a, (y a).val = win0_5.index t a * win0_5.size a + (j a).val) :
    ((cfg0.win 5).blk t).view.read (Elt Ideal) A j = A y := by
  show A _ = A y
  congr 1
  funext a
  apply Fin.ext
  rw [h a]
  show win0_5.index t a * win0_5.size a + 1 * (j a).val = _
  rw [Nat.one_mul]

/-- The kernel's result holds the attention of its arguments, where every query scale is positive. -/
theorem kernel_value (c : Dev nD) (hs : Positive (s := S4x1280x16) (m ((c : Thread nD τ).loc main_arg1)))
    (b : Fin 4) (row : Fin 1280) (hd : Fin 16) (d : Fin 128) :
    (dats m 0 c).arrAt 5 cfg0.N (ix3 b row ⟨128 * hd + d, by omega⟩)
      = attention (m ((c : Thread nD τ).loc main_arg0)) (m ((c : Thread nD τ).loc main_arg1)) (m ((c : Thread nD τ).loc main_arg2))
          (m ((c : Thread nD τ).loc main_arg3)) (m ((c : Thread nD τ).loc main_arg4)) b row hd d := by
  obtain ⟨t, ht⟩ : ∃ t : Fin cfg0.N, t.val = 2 * b.val + hd.val / 8 :=
    ⟨⟨2 * b + hd / 8, by have : cfg0.N = 8 := N_0; omega⟩, rfl⟩
  have hb : batch t = b := Fin.ext (by show t.val / 2 = b.val; omega)
  have hh : headOf (grid0.coords t) ⟨hd % 8, by omega⟩ = hd := by
    apply Fin.ext
    show 8 * (grid0.coords t 1).val + hd.val % 8 = hd.val
    rw [coord1, ht]
    omega
  have h2 : (⟨(128 * (hd.val % 8) + d.val) / 128, by omega⟩ : Fin 8) = ⟨hd % 8, by omega⟩ := Fin.ext (by show (128 * (hd.val % 8) + d.val) / 128 = hd.val % 8; omega)
  have h3 : (⟨(128 * (hd.val % 8) + d.val) % 128, by omega⟩ : Fin 128) = d := Fin.ext (by show (128 * (hd.val % 8) + d.val) % 128 = d.val; omega)
  have hb' : t.val / 2 = b.val := by omega
  have hk' : t.val % 2 = hd.val / 8 := by omega
  rw [← out_index t ((dats m 0 c).arrAt 5 cfg0.N) (ix3 0 row ⟨128 * (hd % 8) + d, by omega⟩) (ix3 b row ⟨128 * hd + d, by omega⟩),
    Value.blocks5 m c t (flush0_5 t), out_block m c t]
  · show attend _ _ _ _ _ row (headOf _ ⟨(128 * (hd.val % 8) + d.val) / 128, _⟩) ⟨(128 * (hd.val % 8) + d.val) % 128, _⟩ = _
    rw [h2, h3, attend_block, hb, hh]
  · intro y
    obtain ⟨h, r, rfl⟩ : ∃ (h : Fin 16) (r : Fin 1280), y = ix3 0 h r := by
      refine ⟨y 1, y 2, funext fun a => ?_⟩
      fin_cases a
      · exact Subsingleton.elim (α := Fin 1) _ _
      · rfl
      · rfl
    rw [block1]
    exact hs _
  · intro a
    rw [index5, hb', hk']
    fin_cases a
    · show b.val = b.val * 1 + 0; omega
    · show row.val = 0 * 1280 + row.val; omega
    · show 128 * hd.val + d.val = hd.val / 8 * 1024 + (128 * (hd.val % 8) + d.val); omega

end

end Cert.Attention

end
-- ==== Proof.ReferenceValue.lean ====
module

public import proofs.«01_k».proof.Proof.KernelValue
public import proofs.«01_k».proof.Proof.Gen.ReferenceIdeal.Frame
public import Idealize.ShloMosaic.Lib.Pipeline.Value
public import Idealize.ShloMosaic.Lib.Claim
public import Idealize.ShloMosaic.Lib.StableHlo.ReadAt

@[expose] public section

noncomputable section

namespace Cert.Attention.Reference

open Idealize.ShloMosaic Idealize.ShloMosaic.TcCoe Cert.ReferenceIdeal Cert.ReferenceIdeal.Gen Finset

/-- The head with index `g` among the eight of key head `kv`. -/
def head (kv : Fin 2) (g : Fin 8) : Fin 16 := ⟨kv * 8 + g, by omega⟩

/-- A score divided by the square root of the head size is the score before the query's scale, times the scale and the inverse root. -/
theorem scaled_score (s q k : EReal) :
    Ideal.div (s * q * k) (Ideal.sqrt (Ideal.ofBits .f32 0x43000000#32)) = s * k * (q * (((Real.sqrt 128)⁻¹ : ℝ) : EReal)) := by
  have hb : Ideal.ofBits .f32 0x43000000#32 = ((128 : ℝ) : EReal) := by
    simp [Ideal.ofBits, Ideal.ieee, -EReal.coe_mul]
    norm_num
  have hs : Ideal.sqrt ((128 : ℝ) : EReal) = ((Real.sqrt 128 : ℝ) : EReal) := by
    show (if (128 : ℝ) < 0 then ⊥ else ((Real.sqrt 128 : ℝ) : EReal)) = _
    rw [if_neg (by norm_num)]
  have h0 : ((Real.sqrt 128 : ℝ) : EReal) ≠ 0 := by
    rw [Ne, EReal.coe_eq_zero]
    exact (Real.sqrt_pos.mpr (by norm_num)).ne'
  rw [hb, hs, Ideal.div, if_neg h0, ← EReal.coe_inv]
  ac_rfl

/-- A masked score stays minus infinity under a positive scale. -/
theorem bot_scaled {q : EReal} (h0 : 0 < q) : ⊥ * (q * (((Real.sqrt 128)⁻¹ : ℝ) : EReal)) = ⊥ :=
  EReal.bot_mul_of_pos (EReal.mul_pos h0 (EReal.coe_pos.mpr (by positivity)))

/-- The reference's masked score of a key. -/
theorem scores (V : Valuation τ sig (Elt Ideal)) (Q : S4x1280x16x128.Idx → EReal) (QS : S4x1280x16.Idx → EReal) (K : S4x2x1280x128.Idx → EReal)
    (KS : S4x1280x2.Idx → EReal) (hQ : V main_v0_0 = Q) (hQS : V main_arg1 = QS) (hK : V main_v0_1 = K) (hKS : V main_arg3 = KS) (hs : Positive QS)
    (b : Fin 4) (kv : Fin 2) (row : Fin 1280) (g : Fin 8) (k : Fin 1280) :
    (StableHlo.after (hostOps1 ++ hostOps1_1) V main_v20 : S4x2x1280x8x1280.Idx → EReal) (ix5 b kv row g k)
      = score Q K KS b row (head kv g) k * (QS (ix3 b row (head kv g)) * (((Real.sqrt 128)⁻¹ : ℝ) : EReal)) := by
  subst hQ hQS hK hKS
  after_reads_at
  rw [scaled_score, WordCmp.cmpi_sle_ofNat (by omega) (by omega)]
  unfold score
  by_cases h : k.val ≤ row.val
  · rw [dif_pos h, decide_eq_true h]
    have hkv : (⟨(head kv g).val / 8, by omega⟩ : Fin 2) = kv := Fin.ext (by show (kv.val * 8 + g.val) / 8 = kv.val; omega)
    rw [hkv]
    refine Eq.trans (if_pos rfl) ?_
    congr 2
    exact Finset.sum_congr rfl fun d _ => mul_comm _ _
  · rw [dif_neg h, decide_eq_false h]
    refine Eq.trans (if_neg (by decide)) ?_
    exact neg_inf_bits.trans (bot_scaled (hs _)).symm

/-- A maximum over all keys, from minus infinity. -/
theorem fold_max (f : ℕ → EReal) :
    (Finset.univ : Finset (Fin 1280)).fold max (Ideal.ofBits .f32 0xFF800000#32) (fun k : Fin 1280 => f k) = (range 1280).sup f := by
  rw [neg_inf_bits]
  show (Finset.univ : Finset (Fin 1280)).sup (fun k : Fin 1280 => f k) = _
  apply le_antisymm
  · exact Finset.sup_le fun k _ => Finset.le_sup (f := f) (Finset.mem_range.2 k.isLt)
  · exact Finset.sup_le fun k hk => Finset.le_sup (f := fun k : Fin 1280 => f k) (Finset.mem_univ ⟨k, Finset.mem_range.1 hk⟩)

/-- The average of the values, spelled over the 1280 keys. -/
theorem average_spelled (x v : ℕ → EReal) (a : EReal) (y w : Fin 1280 → EReal) (hy : ∀ k, y k = x k * a) (hw : ∀ k, w k = v k) :
    ∑ k, w k * (Ideal.exp (y k - (Finset.univ : Finset (Fin 1280)).fold max (Ideal.ofBits .f32 0xFF800000#32) y)
        * Ideal.div 1 (∑ j, Ideal.exp (y j - (Finset.univ : Finset (Fin 1280)).fold max (Ideal.ofBits .f32 0xFF800000#32) y)))
      = average x v a := by
  obtain rfl : y = fun k : Fin 1280 => x k * a := funext hy
  obtain rfl : w = fun k : Fin 1280 => v k := funext hw
  rw [fold_max fun k => x k * a, average, Finset.sum_range, Finset.sum_range]

/-- The reference's result, from its masked scores: the average of the values. -/
theorem averages (V : Valuation τ sig (Elt Ideal)) (Vl : S4x1280x2x128.Idx → EReal) (hV : V main_arg4 = Vl)
    (b : Fin 4) (row : Fin 1280) (kv : Fin 2) (g : Fin 8) (d : Fin 128) (n : Fin 2048) (hn : n.val = (kv.val * 8 + g.val) * 128 + d.val)
    (x : ℕ → EReal) (a : EReal)
    (hx : ∀ k : Fin 1280, (V main_v20 : S4x2x1280x8x1280.Idx → EReal) (ix5 b kv row g k) = x k * a) :
    (StableHlo.after hostOps1_2 V main_v37 : S4x1280x2048.Idx → EReal) (ix3 b row n) = average x (entry Vl b kv d) a := by
  have h1 : ∀ h, (⟨n.val / 1024, h⟩ : Fin 2) = kv := fun _ => Fin.ext (by show n.val / 1024 = kv.val; omega)
  have h2 : ∀ h, (⟨n.val / 128 % 8, h⟩ : Fin 8) = g := fun _ => Fin.ext (by show n.val / 128 % 8 = g.val; omega)
  have h3 : ∀ h, (⟨n.val % 128, h⟩ : Fin 128) = d := fun _ => Fin.ext (by show n.val % 128 = d.val; omega)
  rw [← average_spelled x (entry Vl b kv d) a (fun k => (V main_v20 : S4x2x1280x8x1280.Idx → EReal) (ix5 b kv row g k))
    (fun k => (V main_arg4 : S4x1280x2x128.Idx → EReal) (ix4 b k kv d)) hx (fun k => by rw [entry, dif_pos k.isLt, hV])]
  clear hx hV
  after_reads_at
  simp only [h1, h2, h3]

section
variable (m : (ℓ : Loc nD τ sig) → Buf (Elt Ideal) ℓ)

theorem index2 : ∀ t : Fin grid0.N, win0_2.index t = ![0, 0, 0, 0] := by decide +kernel
theorem index3 : ∀ t : Fin grid0.N, win0_3.index t = ![0, 0, 0, 0] := by decide +kernel
theorem index0 : ∀ t : Fin grid0.N, win0_0.index t = ![0, 0, 0, 0] := by decide +kernel
theorem index1 : ∀ t : Fin grid0.N, win0_1.index t = ![0, 0, 0, 0] := by decide +kernel

theorem one_point (t t' : Fin cfg0.N) : t = t' := by
  apply Fin.ext
  have := t.isLt
  have := t'.isLt
  have : cfg0.N = 1 := N_0
  omega

theorem zero4 : (![0, 0, 0, 0] : Fin 4 → ℕ) = fun _ => 0 := funext fun a => by fin_cases a <;> rfl

/-- Window 0 holds its whole array. -/
theorem whole0 (t : Fin cfg0.N) (A : S4x1280x16x128.Idx → EReal) (y : S4x1280x16x128.Idx) :
    ((cfg0.win 0).blk t).view.read (Elt Ideal) A y = A y := by
  show A _ = A y
  congr 1
  funext a
  apply Fin.ext
  show win0_0.index t a * win0_0.size a + 1 * (y a).val = _
  rw [index0, zero4, Nat.zero_mul, Nat.zero_add, Nat.one_mul]

/-- Window 1 holds its whole array. -/
theorem whole1 (t : Fin cfg0.N) (A : S4x2x1280x128.Idx → EReal) (y : S4x2x1280x128.Idx) :
    ((cfg0.win 1).blk t).view.read (Elt Ideal) A y = A y := by
  show A _ = A y
  congr 1
  funext a
  apply Fin.ext
  show win0_1.index t a * win0_1.size a + 1 * (y a).val = _
  rw [index1, zero4, Nat.zero_mul, Nat.zero_add, Nat.one_mul]

/-- Window 2 holds its whole array. -/
theorem whole2 (t : Fin cfg0.N) (A : S4x1280x16x128.Idx → EReal) (y : S4x1280x16x128.Idx) :
    ((cfg0.win 2).blk t).view.read (Elt Ideal) A y = A y := by
  show A _ = A y
  congr 1
  funext a
  apply Fin.ext
  show win0_2.index t a * win0_2.size a + 1 * (y a).val = _
  rw [index2, zero4, Nat.zero_mul, Nat.zero_add, Nat.one_mul]

/-- Window 3 holds its whole array. -/
theorem whole3 (t : Fin cfg0.N) (A : S4x2x1280x128.Idx → EReal) (y : S4x2x1280x128.Idx) :
    ((cfg0.win 3).blk t).view.read (Elt Ideal) A y = A y := by
  show A _ = A y
  congr 1
  funext a
  apply Fin.ext
  show win0_3.index t a * win0_3.size a + 1 * (y a).val = _
  rw [index3, zero4, Nat.zero_mul, Nat.zero_add, Nat.one_mul]

/-- The queries, decoded. -/
theorem queries (c : Dev nD) : (dats m 0 c).arrAt 2 cfg0.N = m ((c : Thread nD τ).loc main_arg0) := by
  funext y
  have hr := (dats m 0 c).read_blk_arrAt_eq_flushed 2 (fun t t' _ _ hne => absurd (one_point t t') hne) cfg0.N t0_0 t0_0.isLt (flush0_2 t0_0)
  refine (whole2 t0_0 ((dats m 0 c).arrAt 2 cfg0.N) y).symm.trans ((congrFun hr y).trans ?_)
  show (dats m 0 c).after 2 t0_0 y = _
  rw [after0_2]
  unfold out0_2
  rw [View.canon_unit_zero zero4, View.ld_unit_zero zero4, ← V_main_arg0 m c]
  exact whole0 t0_0 (V m c main_arg0) y

/-- The keys, decoded. -/
theorem keys (c : Dev nD) : (dats m 0 c).arrAt 3 cfg0.N = m ((c : Thread nD τ).loc main_arg2) := by
  funext y
  have hr := (dats m 0 c).read_blk_arrAt_eq_flushed 3 (fun t t' _ _ hne => absurd (one_point t t') hne) cfg0.N t0_0 t0_0.isLt (flush0_3 t0_0)
  refine (whole3 t0_0 ((dats m 0 c).arrAt 3 cfg0.N) y).symm.trans ((congrFun hr y).trans ?_)
  show (dats m 0 c).after 3 t0_0 y = _
  rw [after0_3]
  unfold out0_3
  rw [View.canon_unit_zero zero4, View.ld_unit_zero zero4, ← V_main_arg2 m c]
  exact whole1 t0_0 (V m c main_arg2) y

/-- The buffers the host operations after the region start from. -/
abbrev start (c : Dev nD) : Valuation τ sig (Elt Ideal) :=
  Pipeline.withArrays spec0 c (V0 m c) fun w => (dats m 0 c).arrAt w cfg0.N

theorem start_arr (c : Dev nD) (w : Fin cfg0.W) :
    start m c (Proc.devRef .tc (Pipeline.arrRef spec0 w)) = (dats m 0 c).arrAt w cfg0.N :=
  Pipeline.withArrays_arr spec0 (by decide) c (V0 m c) _ w

theorem start_ne (c : Dev nD) (b : Ref sig .tc) (hb : ∀ w, Pipeline.arrRef spec0 w ≠ b) :
    start m c (Proc.devRef .tc b) = V m c b :=
  Pipeline.withArrays_of_ne _ c (V0 m c) _ b hb

/-- No host operation before the averages writes the values. -/
theorem values_kept (c : Dev nD) : StableHlo.after (hostOps1 ++ hostOps1_1) (start m c) main_arg4 = m ((c : Thread nD τ).loc main_arg4) := by
  rw [StableHlo.after_of_forall_not_mem (b := Proc.devRef .tc main_arg4) _ _ (List.forall_iff_forall_mem.mp (by
      simp only [hostOps1, hostOps1_1, List.cons_append,
        List.nil_append, List.Forall, StableHlo.nullary_writes, StableHlo.unary_writes, StableHlo.binary_writes, StableHlo.ternary_writes, StableHlo.reshape_writes, Finset.mem_singleton]
      repeat' apply And.intro
      all_goals exact StableHlo.devRef_ne_of_ne (by decide))),
    start_ne m c main_arg4 (by decide)]
  exact V_main_arg4 m c

/-- The reference's result holds the attention of its arguments, where every query scale is positive. -/
theorem reference_value (c : Dev nD) (hs : Positive (s := S4x1280x16) (m ((c : Thread nD τ).loc main_arg1)))
    (b : Fin 4) (row : Fin 1280) (kv : Fin 2) (g : Fin 8) (d : Fin 128) (n : Fin 2048) (hn : n.val = (kv.val * 8 + g.val) * 128 + d.val) :
    (Pipeline.afterTail₀ cfgs (dats m) 0 (V0 m) [hostOps1, hostOps1_1, hostOps1_2] c main_v37 : S4x1280x2048.Idx → EReal) (ix3 b row n)
      = attention (m ((c : Thread nD τ).loc main_arg0)) (m ((c : Thread nD τ).loc main_arg1)) (m ((c : Thread nD τ).loc main_arg2))
          (m ((c : Thread nD τ).loc main_arg3)) (m ((c : Thread nD τ).loc main_arg4)) b row (head kv g) d := by
  have hl : ([hostOps1, hostOps1_1, hostOps1_2] : List (List (HloOp τ sig (Elt Ideal)))).flatten = (hostOps1 ++ hostOps1_1) ++ hostOps1_2 := rfl
  unfold Pipeline.afterTail₀
  rw [hl, StableHlo.after_append]
  have hkv : (⟨(head kv g).val / 8, by omega⟩ : Fin 2) = kv := Fin.ext (by show (kv.val * 8 + g.val) / 8 = kv.val; omega)
  refine Eq.trans (averages _ _ (values_kept m c) b row kv g d n hn _ _
    (scores (start m c) _ _ _ _ ((start_arr m c 2).trans (queries m c)) ((start_ne m c main_arg1 (by decide)).trans (V_main_arg1 m c))
      ((start_arr m c 3).trans (keys m c)) ((start_ne m c main_arg3 (by decide)).trans (V_main_arg3 m c)) hs b kv row g)) ?_
  unfold attention
  rw [hkv]

end

end Cert.Attention.Reference

end
-- ==== Proof.Equal.lean ====
module

public import proofs.«01_k».proof.Defs
public import proofs.«01_k».proof.Proof.KernelValue
public import proofs.«01_k».proof.Proof.ReferenceValue
public import proofs.«01_k».proof.Proof.Gen.KernelIdeal
public import proofs.«01_k».proof.Proof.Gen.ReferenceIdeal
public import proofs.«01_k».proof.Proof.Gen.Pre_positive_scales

@[expose] public section

noncomputable section

namespace Cert.Attention

open Idealize.ShloMosaic Idealize.SL.Sem

/-- Where the precondition is all ones, every query scale is positive. -/
theorem positive (x0 : FVec Ideal Cert.Pre_positive_scales.S4x1280x16x128 .fp8e4m3) (x1 : FVec Ideal Cert.Pre_positive_scales.S4x1280x16 .f32)
    (x2 : FVec Ideal Cert.Pre_positive_scales.S4x2x1280x128 .fp8e4m3) (x3 : FVec Ideal Cert.Pre_positive_scales.S4x1280x2 .f32)
    (x4 : FVec Ideal Cert.Pre_positive_scales.S4x1280x2x128 .bf16) [Cert.Pre_positive_scales.Facts]
    (h : ∀ j, Cert.Pre_positive_scales.fn x0 x1 x2 x3 x4 j = 1#1) : Positive x1 := by
  intro j
  have hj : BitVec.ofBool (decide (Ideal.ofBits .f32 0x00000000#32 < x1 j)) = 1#1 := h j
  have h0 : Ideal.ofBits .f32 0x00000000#32 = 0 := by simp [Ideal.ofBits, Ideal.ieee]
  rw [h0] at hj
  by_contra hp
  rw [decide_eq_false hp] at hj
  exact absurd hj (by decide)

/-- From the same arguments with positive query scales, the reference's result is the kernel's. -/
theorem same_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hs : Positive (s := Cert.KernelIdeal.S4x1280x16) (m ((c.tc : Thread Cert.KernelIdeal.nD Cert.KernelIdeal.τ).loc Cert.KernelIdeal.main_arg1)))
    (h0 : (m' ((c.tc : Thread Cert.ReferenceIdeal.nD Cert.ReferenceIdeal.τ).loc Cert.ReferenceIdeal.main_arg0) : Cert.KernelIdeal.S4x1280x16x128.Idx → EReal)
      = m ((c.tc : Thread Cert.KernelIdeal.nD Cert.KernelIdeal.τ).loc Cert.KernelIdeal.main_arg0))
    (h1 : (m' ((c.tc : Thread Cert.ReferenceIdeal.nD Cert.ReferenceIdeal.τ).loc Cert.ReferenceIdeal.main_arg1) : Cert.KernelIdeal.S4x1280x16.Idx → EReal)
      = m ((c.tc : Thread Cert.KernelIdeal.nD Cert.KernelIdeal.τ).loc Cert.KernelIdeal.main_arg1))
    (h2 : (m' ((c.tc : Thread Cert.ReferenceIdeal.nD Cert.ReferenceIdeal.τ).loc Cert.ReferenceIdeal.main_arg2) : Cert.KernelIdeal.S4x2x1280x128.Idx → EReal)
      = m ((c.tc : Thread Cert.KernelIdeal.nD Cert.KernelIdeal.τ).loc Cert.KernelIdeal.main_arg2))
    (h3 : (m' ((c.tc : Thread Cert.ReferenceIdeal.nD Cert.ReferenceIdeal.τ).loc Cert.ReferenceIdeal.main_arg3) : Cert.KernelIdeal.S4x1280x2.Idx → EReal)
      = m ((c.tc : Thread Cert.KernelIdeal.nD Cert.KernelIdeal.τ).loc Cert.KernelIdeal.main_arg3))
    (h4 : (m' ((c.tc : Thread Cert.ReferenceIdeal.nD Cert.ReferenceIdeal.τ).loc Cert.ReferenceIdeal.main_arg4) : Cert.KernelIdeal.S4x1280x2x128.Idx → EReal)
      = m ((c.tc : Thread Cert.KernelIdeal.nD Cert.KernelIdeal.τ).loc Cert.KernelIdeal.main_arg4)) :
    (Pipeline.afterTail₀ Cert.ReferenceIdeal.cfgs (Cert.ReferenceIdeal.Gen.dats m') 0 (Cert.ReferenceIdeal.Gen.V0 m')
        [Cert.ReferenceIdeal.Gen.hostOps1, Cert.ReferenceIdeal.Gen.hostOps1_1, Cert.ReferenceIdeal.Gen.hostOps1_2] c Cert.ReferenceIdeal.main_v37
        : Cert.KernelIdeal.S4x1280x2048.Idx → EReal)
      = (Cert.KernelIdeal.Gen.dats m 0 c).arrAt 5 Cert.KernelIdeal.cfg0.N := by
  funext y
  obtain ⟨b, row, n, rfl⟩ : ∃ (b : Fin 4) (row : Fin 1280) (n : Fin 2048), y = ix3 b row n :=
    ⟨y 0, y 1, y 2, funext fun a => by fin_cases a <;> rfl⟩
  have hr := Reference.reference_value m' c (h1 ▸ hs) b row ⟨n / 1024, by omega⟩ ⟨n / 128 % 8, by omega⟩ ⟨n % 128, by omega⟩ n
    (by show n.val = (n.val / 1024 * 8 + n.val / 128 % 8) * 128 + n.val % 128; omega)
  have hk := kernel_value m c hs b row ⟨n / 128, by omega⟩ ⟨n % 128, by omega⟩
  have hh : Reference.head ⟨n / 1024, by omega⟩ ⟨n / 128 % 8, by omega⟩ = ⟨n / 128, by omega⟩ :=
    Fin.ext (by show n.val / 1024 * 8 + n.val / 128 % 8 = n.val / 128; omega)
  have hn : (⟨128 * (n.val / 128) + n.val % 128, by omega⟩ : Fin 2048) = n := Fin.ext (by show 128 * (n.val / 128) + n.val % 128 = n.val; omega)
  refine hr.trans (Eq.trans ?_ (hk.symm.trans (by rw [hn])))
  rw [hh]
  exact congr (congr (congr (congr (congrArg _ h0) h1) h2) h3) h4 |> fun e => congrFun (congrFun (congrFun (congrFun e b) row) _) _

/-- The idealized kernel and the reference, from the same arguments with positive query scales, end with the same result. -/
theorem algebraic : @Cert.algebraic_KernelIdeal_ReferenceIdeal_pre_positive_scales Cert.KernelIdeal.Gen.facts Cert.ReferenceIdeal.Gen.facts
    Cert.Pre_positive_scales.Gen.facts := by
  intro m g m' g' hpre hargs
  have hs : ∀ c : Dev Cert.KernelIdeal.nD, Positive (s := Cert.KernelIdeal.S4x1280x16) (m ((c.tc : Thread Cert.KernelIdeal.nD Cert.KernelIdeal.τ).loc Cert.KernelIdeal.main_arg1)) :=
    fun c => positive _ _ _ _ _ fun j => congrFun (hpre c) j
  refine ⟨fun c => (Cert.KernelIdeal.Gen.dats m 0 c).arrAt 5 Cert.KernelIdeal.cfg0.N, Cert.KernelIdeal.Value.run_blocks m g, ?_⟩
  refine (θ_run _ _ _).mono (fun r h c => ⟨?_, ?_, ?_, ?_, ?_, ?_⟩) (Cert.ReferenceIdeal.Gen.run_main m' g')
  · refine ((h c).2 Cert.ReferenceIdeal.main_v37 (Pipeline.mem_restRefs_of Cert.ReferenceIdeal.main_v37 (by decide) (by decide))).trans ?_
    exact same_result m m' c (hs c) (hargs c).1 (hargs c).2.1 (hargs c).2.2.1 (hargs c).2.2.2.1 (hargs c).2.2.2.2
  · exact ((h c).1 0).trans (((Cert.ReferenceIdeal.Gen.dats m' 0 c).arrAt_in 0 rfl _).trans
      ((Cert.ReferenceIdeal.Gen.A_eq m' c 0).trans (Cert.ReferenceIdeal.Gen.V_main_arg0 m' c)))
  · exact ((h c).2 Cert.ReferenceIdeal.main_arg1 (Pipeline.mem_restRefs_of Cert.ReferenceIdeal.main_arg1 (by decide) (by decide))).trans
      (Cert.ReferenceIdeal.Gen.W_main_arg1 m' _ c)
  · exact ((h c).1 1).trans (((Cert.ReferenceIdeal.Gen.dats m' 0 c).arrAt_in 1 rfl _).trans
      ((Cert.ReferenceIdeal.Gen.A_eq m' c 1).trans (Cert.ReferenceIdeal.Gen.V_main_arg2 m' c)))
  · exact ((h c).2 Cert.ReferenceIdeal.main_arg3 (Pipeline.mem_restRefs_of Cert.ReferenceIdeal.main_arg3 (by decide) (by decide))).trans
      (Cert.ReferenceIdeal.Gen.W_main_arg3 m' _ c)
  · exact ((h c).2 Cert.ReferenceIdeal.main_arg4 (Pipeline.mem_restRefs_of Cert.ReferenceIdeal.main_arg4 (by decide) (by decide))).trans
      (Cert.ReferenceIdeal.Gen.W_main_arg4 m' _ c)

end Cert.Attention

end
-- ==== Proof.lean ====
/- The proof of the claims: the three frames, the constants the idealized program names, and the equality of the two results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Frame
public import proofs.«01_k».proof.Proof.Gen.Pre_positive_scales
public import proofs.«01_k».proof.Proof.Equal
public import Idealize.ShloMosaic.Adequacy
public import Idealize.ShloMosaic.Init

@[expose] public section

noncomputable section

namespace Cert.Proof

open Idealize.ShloMosaic Idealize.SL.Sem

/-- The three frames, the two constants of the kernel that are read as exact values, and the equality of the results. -/
theorem claim : Cert.Claim := ⟨Cert.Kernel.Gen.facts, Cert.KernelIdeal.Gen.facts, Cert.ReferenceIdeal.Gen.facts, Cert.Pre_positive_scales.Gen.facts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Gen.frame m ρ,
  fun m ρ _ => Cert.ReferenceIdeal.Gen.frame m ρ,
  ⟨IdealRules.named_const.statement Cert.KernelIdeal.κ "mask" .f32 0xF149F2CA#32 _ rfl,
    IdealRules.named_const.statement Cert.KernelIdeal.κ "logit_scale" .f32 0x3E0293EE#32 _ rfl⟩,
  Cert.Attention.algebraic⟩

end Cert.Proof

end
